-- ==== Defs.lean ====
def Pre_KernelIdeal (m : (ℓ : Loc Cert.KernelIdeal.nD Cert.KernelIdeal.τ Cert.KernelIdeal.sig) → Buf (Elt Ideal) ℓ) : Prop :=
  True

def Pre_KernelIdeal_enough_candidates [hPre_enough_candidates : Cert.Pre_enough_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_enough_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough_candidates [hPre_enough_candidates : Cert.Pre_enough_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_enough_candidates [hKernelIdeal : Cert.KernelIdeal.Facts] [hPre_enough_candidates : Cert.Pre_enough_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough_candidates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_enough_candidates [hReferenceIdeal : Cert.ReferenceIdeal.Facts] [hPre_enough_candidates : Cert.Pre_enough_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough_candidates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal_pre_enough_candidates [hKernelIdeal : Cert.KernelIdeal.Facts] [hReferenceIdeal : Cert.ReferenceIdeal.Facts] [hPre_enough_candidates : Cert.Pre_enough_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough_candidates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_enough_candidates : Cert.Pre_enough_candidates.Facts),
    quiescent_KernelIdeal (hKernelIdeal := hKernelIdeal)
    ∧ quiescent_KernelIdeal_pre_enough_candidates (hKernelIdeal := hKernelIdeal) (hPre_enough_candidates := hPre_enough_candidates)
    ∧ quiescent_ReferenceIdeal (hReferenceIdeal := hReferenceIdeal)
    ∧ quiescent_ReferenceIdeal_pre_enough_candidates (hReferenceIdeal := hReferenceIdeal) (hPre_enough_candidates := hPre_enough_candidates)
    ∧ algebraic_KernelIdeal_ReferenceIdeal_pre_enough_candidates (hKernelIdeal := hKernelIdeal) (hReferenceIdeal := hReferenceIdeal) (hPre_enough_candidates := hPre_enough_candidates)
-- ==== Pre_enough_candidates.lean ====
abbrev S20000x80 : Shape := ⟨2, ![20000, 80]⟩
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1600000 : Shape := ⟨1, ![1600000]⟩
abbrev S1000 : Shape := ⟨1, ![1000]⟩

class Facts : Prop where
  bcast_S_S20000x80 : S_.BroadcastsInDim S20000x80 (![] : Fin 0 → Fin S20000x80.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x80_0_1 : S20000x1.BroadcastsInDim S20000x80 (![0, 1] : Fin 2 → Fin S20000x80.rank)
  shapeCasts_S20000x80_S1600000 : S20000x80.ShapeCasts S1600000
  sliceFits_S1600000_S1000 : S1600000.Slices (fun _ => 0) S1000
  bcast_S_S1000 : S_.BroadcastsInDim S1000 (![] : Fin 0 → Fin S1000.rank)

variable [Facts]

def fn_where {F : FTy → Type} [FloatOps F] (arg0 : IVec S20000x80 1) (arg1 : FVec F S20000x80 .f32) (arg2 : FVec F S_ .f32) : FVec F S20000x80 .f32 :=
  let v0 : FVec F S_ .f32 := id arg2
  let v1 : FVec F S20000x80 .f32 := broadcastInDim S20000x80 ![] bcast_S_S20000x80 v0
  let v2 : FVec F S20000x80 .f32 := select arg0 arg1 v1
  v2

def fn_part1 {F : FTy → Type} [FloatOps F] (main_v15 : FVec F S20000x80 .f32) (main_v17 : IVec S20000x80 1) (main_cst_4 : FVec F S_ .f32) : IVec S1000 1 :=
  let main_v18 : FVec F S20000x80 .f32 := fn_where (F := F) main_v17 main_v15 main_cst_4
  let main_v19 : FVec F S1600000 .f32 := shapeCast S1600000 main_v18 shapeCasts_S20000x80_S1600000
  let main_values : FVec F S1000 .f32 := (fun x => (Host.topK S1000 0 (FloatOps.cmpfTotal .gt) x sliceFits_S1600000_S1000).1) main_v19
  let main_indices : IVec S1000 32 := (fun x => (Host.topK S1000 0 (FloatOps.cmpfTotal .gt) x sliceFits_S1600000_S1000).2) main_v19
  let main_cst_5 : FVec F S_ .f32 := constant S_ .f32 0x00000000#32
  let main_v20 : FVec F S1000 .f32 := broadcastInDim S1000 ![] bcast_S_S1000 main_cst_5
  let main_v21 : IVec S1000 1 := cmpf .ogt main_values main_v20
  main_v21

def fn {F : FTy → Type} [FloatOps F] (main_arg0 : FVec F S20000x80 .f32) (main_arg1 : FVec F S20000x4 .f32) (main_arg2 : FVec F S20000 .f32) (main_arg3 : FVec F S20000x4 .f32) : IVec S1000 1 :=
  let main_v0 : FVec F S20000x80 .f32 := Host.negf main_arg0
  let main_v1 : FVec F S20000x80 .f32 := Host.exp main_v0
  let main_cst : FVec F S_ .f32 := constant S_ .f32 0x3F800000#32
  let main_v2 : FVec F S20000x80 .f32 := broadcastInDim S20000x80 ![] bcast_S_S20000x80 main_cst
  let main_v3 : FVec F S20000x80 .f32 := addf main_v2 main_v1
  let main_cst_0 : FVec F S_ .f32 := constant S_ .f32 0x3F800000#32
  let main_v4 : FVec F S20000x80 .f32 := broadcastInDim S20000x80 ![] bcast_S_S20000x80 main_cst_0
  let main_v5 : FVec F S20000x80 .f32 := Host.divf main_v4 main_v3
  let main_v6 : FVec F S20000 .f32 := Host.negf main_arg2
  let main_v7 : FVec F S20000 .f32 := Host.exp main_v6
  let main_cst_1 : FVec F S_ .f32 := constant S_ .f32 0x3F800000#32
  let main_v8 : FVec F S20000 .f32 := broadcastInDim S20000 ![] bcast_S_S20000 main_cst_1
  let main_v9 : FVec F S20000 .f32 := addf main_v8 main_v7
  let main_cst_2 : FVec F S_ .f32 := constant S_ .f32 0x3F800000#32
  let main_v10 : FVec F S20000 .f32 := broadcastInDim S20000 ![] bcast_S_S20000 main_cst_2
  let main_v11 : FVec F S20000 .f32 := Host.divf main_v10 main_v9
  let main_v12 : FVec F S20000x1 .f32 := broadcastInDim S20000x1 ![0] bcast_S20000_S20000x1_0 main_v11
  let main_v13 : FVec F S20000x80 .f32 := broadcastInDim S20000x80 ![0, 1] bcast_S20000x1_S20000x80_0_1 main_v12
  let main_v14 : FVec F S20000x80 .f32 := mulf main_v5 main_v13
  let main_v15 : FVec F S20000x80 .f32 := Host.sqrt main_v14
  let main_cst_3 : FVec F S_ .f32 := constant S_ .f32 0x3D4CCCCD#32
  let main_v16 : FVec F S20000x80 .f32 := broadcastInDim S20000x80 ![] bcast_S_S20000x80 main_cst_3
  let main_v17 : IVec S20000x80 1 := cmpf .ogt main_v15 main_v16
  let main_cst_4 : FVec F S_ .f32 := constant S_ .f32 0x00000000#32
  fn_part1 (F := F) main_v15 main_v17 main_cst_4
-- ==== KernelIdeal.lean ====
abbrev S20000x80 : Shape := ⟨2, ![20000, 80]⟩
abbrev S20000x4 : Shape := ⟨2, ![20000, 4]⟩
abbrev S20000 : Shape := ⟨1, ![20000]⟩
abbrev S20000x8 : Shape := ⟨2, ![20000, 8]⟩
abbrev S40x500 : Shape := ⟨2, ![40, 500]⟩
abbrev S100x4 : Shape := ⟨2, ![100, 4]⟩
abbrev S100x1 : Shape := ⟨2, ![100, 1]⟩
abbrev S1024x16 : Shape := ⟨2, ![1024, 16]⟩
abbrev S1024x4 : Shape := ⟨2, ![1024, 4]⟩
abbrev S1024x1024 : Shape := ⟨2, ![1024, 1024]⟩
abbrev S1x500 : Shape := ⟨2, ![1, 500]⟩
abbrev S500x1 : Shape := ⟨2, ![500, 1]⟩
abbrev S500x80 : Shape := ⟨2, ![500, 80]⟩
abbrev S500 : Shape := ⟨1, ![500]⟩
abbrev S1x80 : Shape := ⟨2, ![1, 80]⟩
abbrev S1x8 : Shape := ⟨2, ![1, 8]⟩
abbrev S1x40x500 : Shape := ⟨3, ![1, 40, 500]⟩
abbrev S1 : Shape := ⟨1, ![1]⟩
abbrev S1x1x1 : Shape := ⟨3, ![1, 1, 1]⟩
abbrev S1x1x80 : Shape := ⟨3, ![1, 1, 80]⟩
abbrev S1x16 : Shape := ⟨2, ![1, 16]⟩
abbrev S1024x1 : Shape := ⟨2, ![1024, 1]⟩
abbrev S1x1024 : Shape := ⟨2, ![1, 1024]⟩
abbrev S128x1 : Shape := ⟨2, ![128, 1]⟩
abbrev S128x1024 : Shape := ⟨2, ![128, 1024]⟩
abbrev S8x1024 : Shape := ⟨2, ![8, 1024]⟩
abbrev S1x1x1024 : Shape := ⟨3, ![1, 1, 1024]⟩
abbrev S1x4 : Shape := ⟨2, ![1, 4]⟩
abbrev S1x1 : Shape := ⟨2, ![1, 1]⟩
abbrev S100x5 : Shape := ⟨2, ![100, 5]⟩

abbrev nBuf : Space → Nat
  | .hbm => 9
  | .vmem => 10
  | .smem => 0
  | _ => 0

abbrev bufTy : (tb : Table) → Fin (tcTables nBuf tb) → BufTy
  | .hbm, ⟨0, _⟩ => ⟨S20000x80, .f32⟩
  | .hbm, ⟨1, _⟩ => ⟨S20000x4, .f32⟩
  | .hbm, ⟨2, _⟩ => ⟨S20000, .f32⟩
  | .hbm, ⟨3, _⟩ => ⟨S20000x4, .f32⟩
  | .hbm, ⟨4, _⟩ => ⟨S20000x8, .f32⟩
  | .hbm, ⟨5, _⟩ => ⟨S40x500, .f32⟩
  | .hbm, ⟨6, _⟩ => ⟨S100x4, .f32⟩
  | .hbm, ⟨7, _⟩ => ⟨S100x1, .f32⟩
  | .hbm, ⟨8, _⟩ => ⟨S100x5, .f32⟩
  | .local _ .vmem, ⟨0, _⟩ => ⟨S20000x80, .f32⟩
  | .local _ .vmem, ⟨1, _⟩ => ⟨S20000x8, .f32⟩
  | .local _ .vmem, ⟨2, _⟩ => ⟨S40x500, .f32⟩
  | .local _ .vmem, ⟨3, _⟩ => ⟨S100x4, .f32⟩
  | .local _ .vmem, ⟨4, _⟩ => ⟨S100x1, .f32⟩
  | .local _ .vmem, ⟨5, _⟩ => ⟨S20000x80, .f32⟩
  | .local _ .vmem, ⟨6, _⟩ => ⟨S40x500, .f32⟩
  | .local _ .vmem, ⟨7, _⟩ => ⟨S1024x16, .f32⟩
  | .local _ .vmem, ⟨8, _⟩ => ⟨S1024x4, .f32⟩
  | .local _ .vmem, ⟨9, _⟩ => ⟨S1024x1024, .f32⟩
  | _, _ => ⟨S20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 (v1220 : BitVec 32) : Fin 2 → Nat :=
  let v1221 : Index := Scalar.indexCast v1220
  let c0_426 : Index := 0#32
  ![v1221.toNat, 0]

def k0_off2 (v1220 : BitVec 32) : Fin 2 → Nat :=
  let v1231 : Index := Scalar.indexCast v1220
  let c0_429 : Index := 0#32
  ![v1231.toNat, 0]
def k0_off3 (arg10 : BitVec 32) : Fin 2 → Nat :=
  let v1245 : Index := Scalar.indexCast arg10
  let c0_433 : Index := 0#32
  ![v1245.toNat, 0]

def k0_chk2 (arg10 : BitVec 32) : Prop :=
  (∀ a, (k0_off3 arg10) a + S1x16.size a ≤ S1024x16.size a)
theorem k0_off3_inb : ∀ (arg10 : BitVec 32) (k0_hw2 : k0_chk2 arg10), ∀ a, (k0_off3 arg10) a + S1x16.size a ≤ S1024x16.size a := fun arg10 k0_hw2 => k0_hw2

def k0_off4 (v1220 : BitVec 32) : Fin 2 → Nat :=
  let v1253 : Index := Scalar.indexCast v1220
  let c0_435 : Index := 0#32
  ![v1253.toNat, 0]

def k0_chk1 (v1220 : BitVec 32) : Prop :=
  (∀ a, (k0_off1 v1220) a + S1x80.size a ≤ S20000x80.size a) ∧
  (∀ a, (k0_off2 v1220) a + S1x8.size a ≤ S20000x8.size a) ∧
  (∀ a, (k0_off4 v1220) a + S1x80.size a ≤ S20000x80.size a)
theorem k0_off1_inb : ∀ (v1220 : BitVec 32) (k0_hw1 : k0_chk1 v1220), ∀ a, (k0_off1 v1220) a + S1x80.size a ≤ S20000x80.size a := fun v1220 k0_hw1 => k0_hw1.1
theorem k0_off2_inb : ∀ (v1220 : BitVec 32) (k0_hw1 : k0_chk1 v1220), ∀ a, (k0_off2 v1220) a + S1x8.size a ≤ S20000x8.size a := fun v1220 k0_hw1 => k0_hw1.2.1
theorem k0_off4_inb : ∀ (v1220 : BitVec 32) (k0_hw1 : k0_chk1 v1220), ∀ a, (k0_off4 v1220) a + S1x80.size a ≤ S20000x80.size a := fun v1220 k0_hw1 => k0_hw1.2.2

@[reducible] def k0_t1_loop : Scf.Loop 32 :=
  let c0_i32_418 : BitVec 32 := 0#32
  let c125_i32 : BitVec 32 := 125#32
  let v1206 : BitVec 32 := Scalar.addi c0_i32_418 c125_i32
  let c1_i32 : BitVec 32 := 1#32
  ⟨c0_i32_418, v1206, c1_i32⟩
def k0_off5 (k0_t1 : Fin k0_t1_loop.trips) : Fin 2 → Nat :=
  let c0_i32_418 : BitVec 32 := 0#32
  let c1_i32 : BitVec 32 := 1#32
  let arg10 : BitVec 32 := Scf.iv c0_i32_418 c1_i32 k0_t1
  let c8_i32 : BitVec 32 := 8#32
  let v1213 : BitVec 32 := Scalar.muli arg10 c8_i32
  let v1214 : Index := Scalar.indexCast v1213
  let c0_425 : Index := 0#32
  ![v1214.toNat, 0]
@[reducible] def k0_t2_loop : Scf.Loop 32 :=
  let c0_i32_422 : BitVec 32 := 0#32
  let c100_i32 : BitVec 32 := 100#32
  let v1211 : BitVec 32 := Scalar.addi c0_i32_422 c100_i32
  let c1_i32_423 : BitVec 32 := 1#32
  ⟨c0_i32_422, v1211, c1_i32_423⟩
def k0_off6 (v1224 : BitVec 32) : Fin 2 → Nat :=
  let v1225 : Index := Scalar.indexCast v1224
  let c0_427 : Index := 0#32
  ![v1225.toNat, 0]

def k0_chk3 (v1224 : BitVec 32) : Prop :=
  (∀ a, (k0_off6 v1224) a + S1x4.size a ≤ S1024x4.size a)
theorem k0_off6_inb : ∀ (v1224 : BitVec 32) (k0_hw3 : k0_chk3 v1224), ∀ a, (k0_off6 v1224) a + S1x4.size a ≤ S1024x4.size a := fun v1224 k0_hw3 => k0_hw3

def k0_off7 (k0_t2 : Fin k0_t2_loop.trips) : Fin 2 → Nat :=
  let c0_i32_422 : BitVec 32 := 0#32
  let c1_i32_423 : BitVec 32 := 1#32
  let arg10 : BitVec 32 := Scf.iv c0_i32_422 c1_i32_423 k0_t2
  let v1227 : Index := Scalar.indexCast arg10
  let c0_428 : Index := 0#32
  ![v1227.toNat, 0]
def k0_off8 (k0_t2 : Fin k0_t2_loop.trips) : Fin 2 → Nat :=
  let c0_i32_422 : BitVec 32 := 0#32
  let c1_i32_423 : BitVec 32 := 1#32
  let arg10 : BitVec 32 := Scf.iv c0_i32_422 c1_i32_423 k0_t2
  let v1230 : Index := Scalar.indexCast arg10
  let c0_429 : Index := 0#32
  ![v1230.toNat, 0]
abbrev stage0_0 : Fin 1 → Memref sig .tc .vmem S20000x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20000x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S100x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S100x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S20000x80 : Shape := ⟨2, ![20000, 80]⟩
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1600000 : Shape := ⟨1, ![1600000]⟩
abbrev S1000 : Shape := ⟨1, ![1000]⟩
abbrev S1000x1 : Shape := ⟨2, ![1000, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 214
  | .vmem => 0
  | .smem => 0
  | _ => 0

abbrev hbmTy0_0 (i : Nat) : BufTy := match i % 128 with
  | 0 => ⟨S20000x80, .f32⟩
  | 1 => ⟨S20000x4, .f32⟩
  | 2 => ⟨S20000, .f32⟩
  | 3 => ⟨S20000x4, .f32⟩
  | 4 => ⟨S20000x80, .f32⟩
  | 5 => ⟨S20000x80, .f32⟩
  | 6 => ⟨S_, .f32⟩
  | 7 => ⟨S20000x80, .f32⟩
  | 8 => ⟨S20000x80, .f32⟩
  | 9 => ⟨S_, .f32⟩
  | 10 => ⟨S20000x80, .f32⟩
  | 11 => ⟨S20000x80, .f32⟩
  | 12 => ⟨S20000, .f32⟩
  | 13 => ⟨S20000, .f32⟩
  | 14 => ⟨S_, .f32⟩
  | 15 => ⟨S20000, .f32⟩
  | 16 => ⟨S20000, .f32⟩
  | 17 => ⟨S_, .f32⟩
  | 18 => ⟨S20000, .f32⟩
  | 19 => ⟨S20000, .f32⟩
  | 20 => ⟨S20000x1, .f32⟩
  | 21 => ⟨S20000x80, .f32⟩
  | 22 => ⟨S20000x80, .f32⟩
  | 23 => ⟨S20000x80, .f32⟩
  | 24 => ⟨S_, .f32⟩
  | 25 => ⟨S20000x80, .f32⟩
  | 26 => ⟨S20000x80, .i1⟩
  | 27 => ⟨S_, .f32⟩
  | 28 => ⟨S_, .f32⟩
  | 29 => ⟨S20000x80, .f32⟩
  | 30 => ⟨S20000x80, .f32⟩
  | 31 => ⟨S1600000, .f32⟩
  | 32 => ⟨S1000, .f32⟩
  | 33 => ⟨S1000, .i32⟩
  | 34 => ⟨S_, .i32⟩
  | 35 => ⟨S1000, .i32⟩
  | 36 => ⟨S1000, .i32⟩
  | 37 => ⟨S_, .i32⟩
  | 38 => ⟨S1000, .i32⟩
  | 39 => ⟨S1000, .i32⟩
  | 40 => ⟨S1000x1, .i32⟩
  | 41 => ⟨S1000x4, .f32⟩
  | 42 => ⟨S1000x1, .i32⟩
  | 43 => ⟨S1000x4, .f32⟩
  | 44 => ⟨S1000x1, .f32⟩
  | 45 => ⟨S1000, .f32⟩
  | 46 => ⟨S1000x1, .f32⟩
  | 47 => ⟨S1000, .f32⟩
  | 48 => ⟨S1000, .f32⟩
  | 49 => ⟨S1000x1, .f32⟩
  | 50 => ⟨S1000, .f32⟩
  | 51 => ⟨S1000x1, .f32⟩
  | 52 => ⟨S1000, .f32⟩
  | 53 => ⟨S1000, .f32⟩
  | 54 => ⟨S1000x1, .f32⟩
  | 55 => ⟨S1000, .f32⟩
  | 56 => ⟨S_, .f32⟩
  | 57 => ⟨S1000, .f32⟩
  | 58 => ⟨S1000, .f32⟩
  | 59 => ⟨S1000, .f32⟩
  | 60 => ⟨S1000x1, .f32⟩
  | 61 => ⟨S1000, .f32⟩
  | 62 => ⟨S_, .f32⟩
  | 63 => ⟨S1000, .f32⟩
  | 64 => ⟨S1000, .f32⟩
  | 65 => ⟨S1000, .f32⟩
  | 66 => ⟨S1000x1, .f32⟩
  | 67 => ⟨S1000, .f32⟩
  | 68 => ⟨S_, .f32⟩
  | 69 => ⟨S1000, .f32⟩
  | 70 => ⟨S1000, .f32⟩
  | 71 => ⟨S1000x1, .f32⟩
  | 72 => ⟨S1000, .f32⟩
  | 73 => ⟨S_, .f32⟩
  | 74 => ⟨S1000, .f32⟩
  | 75 => ⟨S1000, .f32⟩
  | 76 => ⟨S1000x1, .f32⟩
  | 77 => ⟨S1000, .f32⟩
  | 78 => ⟨S_, .f32⟩
  | 79 => ⟨S1000, .f32⟩
  | 80 => ⟨S1000, .f32⟩
  | 81 => ⟨S_, .f32⟩
  | 82 => ⟨S1000, .f32⟩
  | 83 => ⟨S1000, .f32⟩
  | 84 => ⟨S1000x1, .f32⟩
  | 85 => ⟨S1000, .f32⟩
  | 86 => ⟨S_, .f32⟩
  | 87 => ⟨S1000, .f32⟩
  | 88 => ⟨S1000, .f32⟩
  | 89 => ⟨S_, .f32⟩
  | 90 => ⟨S1000, .f32⟩
  | 91 => ⟨S1000, .f32⟩
  | 92 => ⟨S1000, .f32⟩
  | 93 => ⟨S1000, .f32⟩
  | 94 => ⟨S1000, .f32⟩
  | 95 => ⟨S1000, .f32⟩
  | 96 => ⟨S1000, .f32⟩
  | 97 => ⟨S1000, .f32⟩
  | 98 => ⟨S1000, .f32⟩
  | 99 => ⟨S1000, .f32⟩
  | 100 => ⟨S_, .f32⟩
  | 101 => ⟨S1000, .f32⟩
  | 102 => ⟨S1000, .f32⟩
  | 103 => ⟨S1000, .f32⟩
  | 104 => ⟨S_, .f32⟩
  | 105 => ⟨S1000, .f32⟩
  | 106 => ⟨S1000, .f32⟩
  | 107 => ⟨S1000, .f32⟩
  | 108 => ⟨S_, .f32⟩
  | 109 => ⟨S1000, .f32⟩
  | 110 => ⟨S1000, .f32⟩
  | 111 => ⟨S1000, .f32⟩
  | 112 => ⟨S_, .f32⟩
  | 113 => ⟨S1000, .f32⟩
  | 114 => ⟨S1000, .f32⟩
  | 115 => ⟨S1000, .f32⟩
  | 116 => ⟨S1000x1, .f32⟩
  | 117 => ⟨S1000x1, .f32⟩
  | 118 => ⟨S1000x1, .f32⟩
  | 119 => ⟨S1000x1, .f32⟩
  | 120 => ⟨S1000x4, .f32⟩
  | 121 => ⟨S1000, .f32⟩
  | 122 => ⟨S_, .f32⟩
  | 123 => ⟨S1000, .f32⟩
  | 124 => ⟨S1000, .f32⟩
  | 125 => ⟨S1000x1, .f32⟩
  | 126 => ⟨S1000x4, .f32⟩
  | 127 => ⟨S1000x4, .f32⟩
  | _ => ⟨S20000x80, .f32⟩

abbrev hbmTy0_1 (i : Nat) : BufTy := match i % 128 with
  | 0 => ⟨S1000x1, .f32⟩
  | 1 => ⟨S1000, .f32⟩
  | 2 => ⟨S1000x1, .f32⟩
  | 3 => ⟨S1000, .f32⟩
  | 4 => ⟨S1000, .f32⟩
  | 5 => ⟨S1000x1, .f32⟩
  | 6 => ⟨S1000, .f32⟩
  | 7 => ⟨S1000x1, .f32⟩
  | 8 => ⟨S1000, .f32⟩
  | 9 => ⟨S1000, .f32⟩
  | 10 => ⟨S1000, .f32⟩
  | 11 => ⟨S1000x2, .f32⟩
  | 12 => ⟨S1000x1x2, .f32⟩
  | 13 => ⟨S1000x2, .f32⟩
  | 14 => ⟨S1x1000x2, .f32⟩
  | 15 => ⟨S1000x1000x2, .f32⟩
  | 16 => ⟨S1000x1000x2, .f32⟩
  | 17 => ⟨S1000x1000x2, .f32⟩
  | 18 => ⟨S1000x2, .f32⟩
  | 19 => ⟨S1000x1x2, .f32⟩
  | 20 => ⟨S1000x2, .f32⟩
  | 21 => ⟨S1x1000x2, .f32⟩
  | 22 => ⟨S1000x1000x2, .f32⟩
  | 23 => ⟨S1000x1000x2, .f32⟩
  | 24 => ⟨S1000x1000x2, .f32⟩
  | 25 => ⟨S1000x1000x2, .f32⟩
  | 26 => ⟨S_, .f32⟩
  | 27 => ⟨S1000x1000x2, .f32⟩
  | 28 => ⟨S1000x1000x2, .f32⟩
  | 29 => ⟨S1000x1000x1, .f32⟩
  | 30 => ⟨S1000x1000, .f32⟩
  | 31 => ⟨S1000x1000x1, .f32⟩
  | 32 => ⟨S1000x1000, .f32⟩
  | 33 => ⟨S1000x1000, .f32⟩
  | 34 => ⟨S1000x1, .f32⟩
  | 35 => ⟨S1x1000, .f32⟩
  | 36 => ⟨S1000x1000, .f32⟩
  | 37 => ⟨S1000x1000, .f32⟩
  | 38 => ⟨S1000x1000, .f32⟩
  | 39 => ⟨S1000x1000, .f32⟩
  | 40 => ⟨S_, .f32⟩
  | 41 => ⟨S1000x1000, .f32⟩
  | 42 => ⟨S1000x1000, .f32⟩
  | 43 => ⟨S1000x1000, .f32⟩
  | 44 => ⟨S1000, .i32⟩
  | 45 => ⟨S_, .i1⟩
  | 46 => ⟨S1000, .i1⟩
  | 47 => ⟨S_, .i32⟩
  | 48 => ⟨S_, .i32⟩
  | 49 => ⟨S1000x1000, .f32⟩
  | 50 => ⟨S1000, .i32⟩
  | 51 => ⟨S_, .i32⟩
  | 52 => ⟨S_, .i32⟩
  | 53 => ⟨S1000, .i1⟩
  | 54 => ⟨S_, .i32⟩
  | 55 => ⟨S_, .i1⟩
  | 56 => ⟨S_, .i32⟩
  | 57 => ⟨S_, .i32⟩
  | 58 => ⟨S_, .i32⟩
  | 59 => ⟨S1x1000, .f32⟩
  | 60 => ⟨S1000, .f32⟩
  | 61 => ⟨S1, .i1⟩
  | 62 => ⟨S_, .i1⟩
  | 63 => ⟨S_, .f32⟩
  | 64 => ⟨S1000, .f32⟩
  | 65 => ⟨S1000, .i1⟩
  | 66 => ⟨S_, .i32⟩
  | 67 => ⟨S1000, .i32⟩
  | 68 => ⟨S1000, .i1⟩
  | 69 => ⟨S1000, .i1⟩
  | 70 => ⟨S1000, .i1⟩
  | 71 => ⟨S1000, .i1⟩
  | 72 => ⟨S1000, .i1⟩
  | 73 => ⟨S1000, .i1⟩
  | 74 => ⟨S_, .i32⟩
  | 75 => ⟨S_, .i32⟩
  | 76 => ⟨S_, .f32⟩
  | 77 => ⟨S_, .f32⟩
  | 78 => ⟨S1000, .f32⟩
  | 79 => ⟨S1000, .f32⟩
  | 80 => ⟨S100, .f32⟩
  | 81 => ⟨S100, .i32⟩
  | 82 => ⟨S100x1, .i32⟩
  | 83 => ⟨S100x4, .f32⟩
  | 84 => ⟨S100x1, .f32⟩
  | 85 => ⟨S100x5, .f32⟩
  | _ => ⟨S20000x80, .f32⟩

abbrev hbmTy (i : Nat) : BufTy := match i / 128 with
  | 0 => hbmTy0_0 i
  | 1 => hbmTy0_1 i
  | _ => ⟨S20000x80, .f32⟩

abbrev bufTy : (tb : Table) → Fin (tcTables nBuf tb) → BufTy
  | .hbm, ⟨i, _⟩ => hbmTy i
  | _, _ => ⟨S20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_values : Ref sig .tc := ⟨.hbm, 32, rfl⟩
abbrev main_indices : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_16 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_19 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_20 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_c_21 : Ref sig .tc := ⟨.hbm, 173, rfl⟩
abbrev main_v142 : Ref sig .tc := ⟨.hbm, 174, rfl⟩
abbrev main_c_22 : Ref sig .tc := ⟨.hbm, 175, rfl⟩
abbrev main_c_23 : Ref sig .tc := ⟨.hbm, 176, rfl⟩
abbrev main_v143_0 : Ref sig .tc := ⟨.hbm, 177, rfl⟩
abbrev main_v143_1 : Ref sig .tc := ⟨.hbm, 178, rfl⟩
abbrev main_v143_2 : Ref sig .tc := ⟨.hbm, 179, rfl⟩
abbrev main_v143_3 : Ref sig .tc := ⟨.hbm, 180, rfl⟩
abbrev main_v143_4 : Ref sig .tc := ⟨.hbm, 181, rfl⟩
abbrev main_while0c_c_31 : Ref sig .tc := ⟨.hbm, 182, rfl⟩
abbrev main_while0c_v149 : Ref sig .tc := ⟨.hbm, 183, rfl⟩
abbrev main_while0b_c_31 : Ref sig .tc := ⟨.hbm, 184, rfl⟩
abbrev main_while0b_v149 : Ref sig .tc := ⟨.hbm, 185, rfl⟩
abbrev main_while0b_call1_c : Ref sig .tc := ⟨.hbm, 186, rfl⟩
abbrev main_while0b_call1_v0 : Ref sig .tc := ⟨.hbm, 187, rfl⟩
abbrev main_while0b_v150 : Ref sig .tc := ⟨.hbm, 188, rfl⟩
abbrev main_while0b_call2_v0 : Ref sig .tc := ⟨.hbm, 189, rfl⟩
abbrev main_while0b_v151 : Ref sig .tc := ⟨.hbm, 190, rfl⟩
abbrev main_while0b_cst_32 : Ref sig .tc := ⟨.hbm, 191, rfl⟩
abbrev main_while0b_v152 : Ref sig .tc := ⟨.hbm, 192, rfl⟩
abbrev main_while0b_v153 : Ref sig .tc := ⟨.hbm, 193, rfl⟩
abbrev main_while0b_v154 : Ref sig .tc := ⟨.hbm, 194, rfl⟩
abbrev main_while0b_v155 : Ref sig .tc := ⟨.hbm, 195, rfl⟩
abbrev main_while0b_v156 : Ref sig .tc := ⟨.hbm, 196, rfl⟩
abbrev main_while0b_v157 : Ref sig .tc := ⟨.hbm, 197, rfl⟩
abbrev main_while0b_v158 : Ref sig .tc := ⟨.hbm, 198, rfl⟩
abbrev main_while0b_v159 : Ref sig .tc := ⟨.hbm, 199, rfl⟩
abbrev main_while0b_v160 : Ref sig .tc := ⟨.hbm, 200, rfl⟩
abbrev main_while0b_v161 : Ref sig .tc := ⟨.hbm, 201, rfl⟩
abbrev main_while0b_c_33 : Ref sig .tc := ⟨.hbm, 202, rfl⟩
abbrev main_while0b_v162 : Ref sig .tc := ⟨.hbm, 203, rfl⟩
abbrev main_cst_24 : Ref sig .tc := ⟨.hbm, 204, rfl⟩
abbrev main_call3_v0 : Ref sig .tc := ⟨.hbm, 205, rfl⟩
abbrev main_call3_v1 : Ref sig .tc := ⟨.hbm, 206, rfl⟩
abbrev main_v144 : Ref sig .tc := ⟨.hbm, 207, rfl⟩
abbrev main_values_25 : Ref sig .tc := ⟨.hbm, 208, rfl⟩
abbrev main_indices_26 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩

abbrev nD : Nat := 1
abbrev τ : Topo := Topo.v7x

variable {F : FTy → Type} [FloatOps F]

abbrev main_while0_count : Scf.Loop 32 := ⟨0#32, 1000#32, 1#32⟩
-- ==== Proof.KCommon.lean ====
/-
  Shared notation of the kernel's certificate: the resource algebra of the pipeline library, the kernel's variant
  (the number of picks still to make) and the points-to of a memref's whole buffer.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameTail
public import Idealize.ShloMosaic.Lib.Tactic

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The certificate's resource algebra: the pipeline library's. -/
abbrev UU : Type := Idealize.ShloMosaic.UR sig nD τ

/-- The recursion bound: a natural number, the picks still to make. -/
abbrev 𝒱₀ : Variants := Variants.nat

/-- A memref's buffer on core `c`, and it held whole at `f`. -/
abbrev Bf (F : FTy → Type) [FloatOps F] (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf F c M) :
    sProp (MT nD τ sig Unit (Elt F) ℕ UU ℕ) :=
  M.view.loc (c : Thread nD τ) ↦{fullShare} f

end Cert.Proof.KernelIdeal

end
-- ==== Proof.KWhile.lean ====
/-
  The kernel's pick loop, the device loop entered at label 1: each trip takes the largest score left, records its row and
  clears it. Here the loop is a function on plain arrays (`wrun`), and `spec_le` says the device loop computes it.
-/
module

public import proofs.«01_k».proof.Proof.KCommon
@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The deltas' window, the packed anchors' window, the score scratch and the picks' scratch, each its whole buffer. -/
abbrev M0 : Memref sig .tc .vmem S20000x80 .f32 := Memref.whole cc0_stg0_0
abbrev M1 : Memref sig .tc .vmem S20000x8 .f32 := Memref.whole cc0_stg1_0
abbrev M5 : Memref sig .tc .vmem S20000x80 .f32 := Memref.whole cc0_scratch0
abbrev M7 : Memref sig .tc .vmem S1024x16 .f32 := Memref.whole cc0_scratch2

/-- Contents of those buffers. -/
abbrev C1 (F : FTy → Type) [FloatOps F] := (cc0_stg1_0 : Ref sig .tc).ty.Contents (Elt F)
abbrev C5 (F : FTy → Type) [FloatOps F] := (cc0_scratch0 : Ref sig .tc).ty.Contents (Elt F)
abbrev C7 (F : FTy → Type) [FloatOps F] := (cc0_scratch2 : Ref sig .tc).ty.Contents (Elt F)

/-- The loop's state: the picks made, the largest score left, the rows' largest scores, the scores left, the picks. -/
structure WSt (F : FTy → Type) [FloatOps F] where
  n : ℕ
  v : F .f32
  rm : FVec F S40x500 .f32
  s5 : C5 F
  s7 : C7 F

/-- The row the trip picks: the smallest row number at which the rows' largest scores equal the largest. -/
def rrOf (v : F .f32) (rm : FVec F S40x500 .f32) : BitVec 32 :=
  extractAt ![0, 0, 0] (k0_pay212 k0_pay165 v rm) inpos_S1x1x1_p0_0_0

/-- The loop's test: fewer than 1000 picks made, and a positive score left. -/
def wcond (n : ℕ) (v : F .f32) : Prop :=
  Scalar.andi (Scalar.cmpi .slt (BitVec.ofNat 32 n) 1000#32) (Scalar.cmpf .ogt v (Scalar.ofBits .f32 0x00000000#32)) = 1#1

instance (n : ℕ) (v : F .f32) : Decidable (wcond n v) := by unfold wcond; infer_instance

/-- The picked row of the scores. -/
def rowAt (s5 : C5 F) (rr : BitVec 32) (h : k0_chk1 rr) : Vec F S1x80 .f32 :=
  View.readAt (Elt F) M5.view (Rect.unit (s := S20000x80) (k0_off1 rr) S1x80.size (k0_off1_inb rr h)).toLoadRect s5

/-- The picked row of the packed anchors. -/
def ancAt (f1 : C1 F) (rr : BitVec 32) (h : k0_chk1 rr) : Vec F S1x8 .f32 :=
  View.readAt (Elt F) M1.view (Rect.unit (s := S20000x8) (k0_off2 rr) S1x8.size (k0_off2_inb rr h)).toLoadRect f1

/-- One trip on the arrays. -/
def wstep (v840 : IVec S1x80 32) (v841 : IVec S1x8 32) (f1 : C1 F) (σ : WSt F) : WSt F :=
  if h : k0_chk1 (rrOf σ.v σ.rm) ∧ k0_chk2 (BitVec.ofNat 32 σ.n) then
    { n := σ.n + 1
      v := k0_pay9 k0_pay165 σ.rm (rrOf σ.v σ.rm) (k0_pay214 v840 σ.v (rowAt σ.s5 (rrOf σ.v σ.rm) h.1))
      rm := k0_pay8 k0_pay165 σ.rm (rrOf σ.v σ.rm) (k0_pay214 v840 σ.v (rowAt σ.s5 (rrOf σ.v σ.rm) h.1))
      s5 := M5.view.writes (Elt F) σ.s5 [⟨Rect.unit (s := S20000x80) (k0_off4 (rrOf σ.v σ.rm)) S1x80.size (k0_off4_inb _ h.1),
        k0_pay215 v840 σ.v (rowAt σ.s5 (rrOf σ.v σ.rm) h.1)⟩]
      s7 := M7.view.writes (Elt F) σ.s7 [⟨Rect.unit (s := S1024x16) (k0_off3 (BitVec.ofNat 32 σ.n)) S1x16.size (k0_off3_inb _ h.2),
        k0_pay213 v840 v841 σ.v (rowAt σ.s5 (rrOf σ.v σ.rm) h.1) (ancAt f1 (rrOf σ.v σ.rm) h.1)⟩] }
  else σ

/-- The loop on the arrays, `k` trips at most. -/
def wrun (v840 : IVec S1x80 32) (v841 : IVec S1x8 32) (f1 : C1 F) : ℕ → WSt F → WSt F
  | 0, σ => σ
  | k + 1, σ => if wcond σ.n σ.v then wrun v840 v841 f1 k (wstep v840 v841 f1 σ) else σ

theorem wcond_lt {n : ℕ} {v : F .f32} (hn : n ≤ 1000) (h : wcond n v) : n < 1000 := by
  rcases Nat.lt_or_ge n 1000 with h' | h'
  · exact h'
  · obtain rfl : n = 1000 := le_antisymm hn h'
    unfold wcond at h
    rw [show Scalar.cmpi .slt (BitVec.ofNat 32 1000) 1000#32 = 0#1 from rfl] at h
    revert h; generalize Scalar.cmpf (F := F) _ _ _ = b
    revert b; decide

/-- A row number below 1000 is inside the picks' scratch. -/
theorem chk2_of_lt : ∀ n : Fin 1000, k0_chk2 (BitVec.ofNat 32 n.val) := by decide +kernel

/-- The row maxima whose largest is `v` name a row inside the arrays whenever `v` is positive: what the loop's loads need. -/
def RowsOk (F : FTy → Type) [FloatOps F] : Prop :=
  ∀ (n : ℕ) (rm : FVec F S40x500 .f32), wcond n (k0_pay168 rm) → k0_chk1 (rrOf (k0_pay168 rm) rm)

theorem pay9_eq (iota : IVec S40x500 32) (rm : FVec F S40x500 .f32) (rr : BitVec 32) (row : FVec F S1x80 .f32) :
    k0_pay9 iota rm rr row = k0_pay168 (k0_pay8 iota rm rr row) := rfl

theorem ofNat_succ_word (n : ℕ) : BitVec.ofNat 32 (n + 1) = Scalar.addi (BitVec.ofNat 32 n) 1#32 :=
  BitVec.ofNat_add n 1

section Label

variable (c : Dev nD) (v840 : IVec S1x80 32) (v841 : IVec S1x8 32) (f1 : C1 F)

/-- The three buffers the loop touches, held whole. -/
def held (s5 : C5 F) (s7 : C7 F) : sProp 𝕄 := iprop(pt c M1 f1 ∗ pt c M5 s5 ∗ pt c M7 s7)

/-- The loop's specification with at most `k` trips to run: the buffers end as `wrun` leaves them. -/
def spec (k : ℕ) (σ : WSt F) : sWPT 𝕄 (BitVec 32 × F .f32 × FVec F S40x500 .f32) := do
  sWPT.consume (held c f1 σ.s5 σ.s7)
  let r ← sWPT.arbitrary
  sWPT.produce (held c f1 (wrun v840 v841 f1 k σ).s5 (wrun v840 v841 f1 k σ).s7)
  pure r

theorem spec_apply (k : ℕ) (σ : WSt F) (K : BitVec 32 × F .f32 × FVec F S40x500 .f32 → sProp 𝕄) :
    spec c v840 v841 f1 k σ K
      = iprop(held c f1 σ.s5 σ.s7 ∗ ∀ r : BitVec 32 × F .f32 × FVec F S40x500 .f32,
          (held c f1 (wrun v840 v841 f1 k σ).s5 (wrun v840 v841 f1 k σ).s7 -∗ K r)) := rfl

/-- The device loop computes `wrun`. -/
theorem spec_le (hR : RowsOk F) :
    ∀ k (σ : WSt F), σ.n + k = 1000 → σ.v = k0_pay168 σ.rm → ∀ K, spec c v840 v841 f1 k σ K
      ⊢ wp frame (wpE (defs₀ (F := F)) 𝒱₀ (c : Thread nD τ) (some k)) Set.univ
          (defs₀ (F := F) .tc 1 ⟨k0_pay165, M5, Memref.isWhole_whole _, v840, M1, Memref.isWhole_whole _, v841, M7,
            Memref.isWhole_whole _, BitVec.ofNat 32 σ.n, σ.v, σ.rm⟩) K := by
  intro k
  induction k with
  | zero =>
    intro σ hn hv K
    rw [spec_apply]
    show _ ⊢ wp frame (wpE (defs₀ (F := F)) 𝒱₀ (c : Thread nD τ) (some 0)) Set.univ
      (cc0_while1 k0_pay165 M5 (Memref.isWhole_whole _) v840 M1 (Memref.isWhole_whole _) v841 M7 (Memref.isWhole_whole _)
        (BitVec.ofNat 32 σ.n) σ.v σ.rm) K
    have ht : ¬ wcond σ.n σ.v := fun h => absurd (wcond_lt (by omega) h) (by omega)
    unfold wcond at ht
    simp only [cc0_while1_eq_skeleton]; unfold cc0_while1_skel
    simp only [ht, ↓reduceIte, Prog.pure_eq_ret]
    iintro ⟨H, Hk⟩
    rw [wp_ret]; imodintro
    iapply Hk
    simp only [wrun]; iexact H
  | succ k ih =>
    intro σ hn hv K
    rw [spec_apply]
    show _ ⊢ wp frame (wpE (defs₀ (F := F)) 𝒱₀ (c : Thread nD τ) (some (k + 1))) Set.univ
      (cc0_while1 k0_pay165 M5 (Memref.isWhole_whole _) v840 M1 (Memref.isWhole_whole _) v841 M7 (Memref.isWhole_whole _)
        (BitVec.ofNat 32 σ.n) σ.v σ.rm) K
    by_cases hc : wcond σ.n σ.v
    · have hc1 : k0_chk1 (extractAt ![0, 0, 0] (k0_pay212 k0_pay165 σ.v σ.rm) inpos_S1x1x1_p0_0_0) := by
        have := hR σ.n σ.rm (hv ▸ hc)
        rw [hv]; exact this
      have hc2 : k0_chk2 (BitVec.ofNat 32 σ.n) := chk2_of_lt ⟨σ.n, wcond_lt (by omega) hc⟩
      have hw : wrun v840 v841 f1 (k + 1) σ = wrun v840 v841 f1 k (wstep v840 v841 f1 σ) := by
        rw [wrun, if_pos hc]
      rw [hw]
      have hs := show wstep v840 v841 f1 σ = _ from dif_pos ⟨hc1, hc2⟩
      have hsn : (wstep v840 v841 f1 σ).n = σ.n + 1 := by rw [hs]
      have hsv := congrArg WSt.v hs
      have hsrm := congrArg WSt.rm hs
      dsimp only at hsv hsrm
      have ih' := ih (wstep v840 v841 f1 σ) (by rw [hsn]; omega) (by rw [hsv, hsrm, pay9_eq])
      rw [hsn, ofNat_succ_word] at ih'
      rw [hsv, hsrm] at ih'
      have hc' := hc
      unfold wcond at hc'
      simp only [cc0_while1_eq_skeleton]; unfold cc0_while1_skel
      simp only [hc', ↓reduceIte]
      unfold held
      iintro ⟨⟨H1, H5, H7⟩, Hk⟩
      sl_exec
      iapply (wp_call_spec 𝒱₀ (c : Thread nD τ) (some (k + 1)) Set.univ (spec c v840 v841 f1 k (wstep v840 v841 f1 σ)) k
        (fun u hu => by cases hu; exact Nat.lt_succ_self k) ih')
      rw [spec_apply, hs]; unfold held rowAt ancAt rrOf spec_le.sl.v1220
      dsimp only
      isplitl [H1 H5 H7]
      · isplitl [H1]; · iexact H1
        isplitl [H5]; · iexact H5
        iexact H7
      iintro %r H
      rw [wp_ret]; imodintro
      iapply Hk; iexact H
    · have hc' := hc
      unfold wcond at hc'
      simp only [cc0_while1_eq_skeleton]; unfold cc0_while1_skel
      simp only [hc', ↓reduceIte, Prog.pure_eq_ret]
      rw [wrun, if_neg hc]
      iintro ⟨H, Hk⟩
      rw [wp_ret]; imodintro
      iapply Hk; iexact H

end Label

end Cert.Proof.KernelIdeal

end
-- ==== Proof.KBody.lean ====
/-
  The two counted loops of the kernel's body: the suppression loop (`nmsSt`) and the selection loop (`t2st`), each a
  function on plain arrays with the invariant that says the device loop computes it.
-/
module

public import proofs.«01_k».proof.Proof.KWhile
public import Idealize.ShloMosaic.Lib.Pointwise
@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

abbrev M2 : Memref sig .tc .vmem S40x500 .f32 := Memref.whole cc0_stg2_0
abbrev M3 : Memref sig .tc .vmem S100x4 .f32 := Memref.whole cc0_stg3_0
abbrev M4 : Memref sig .tc .vmem S100x1 .f32 := Memref.whole cc0_stg4_0
abbrev M6 : Memref sig .tc .vmem S40x500 .f32 := Memref.whole cc0_scratch1
abbrev M8 : Memref sig .tc .vmem S1024x4 .f32 := Memref.whole cc0_scratch3
abbrev M9 : Memref sig .tc .vmem S1024x1024 .f32 := Memref.whole cc0_scratch4

abbrev C0 (F : FTy → Type) [FloatOps F] := (cc0_stg0_0 : Ref sig .tc).ty.Contents (Elt F)
abbrev C2 (F : FTy → Type) [FloatOps F] := (cc0_stg2_0 : Ref sig .tc).ty.Contents (Elt F)
abbrev C3 (F : FTy → Type) [FloatOps F] := (cc0_stg3_0 : Ref sig .tc).ty.Contents (Elt F)
abbrev C4 (F : FTy → Type) [FloatOps F] := (cc0_stg4_0 : Ref sig .tc).ty.Contents (Elt F)
abbrev C6 (F : FTy → Type) [FloatOps F] := (cc0_scratch1 : Ref sig .tc).ty.Contents (Elt F)
abbrev C8 (F : FTy → Type) [FloatOps F] := (cc0_scratch3 : Ref sig .tc).ty.Contents (Elt F)
abbrev C9 (F : FTy → Type) [FloatOps F] := (cc0_scratch4 : Ref sig .tc).ty.Contents (Elt F)

/-- One suppression: if pick `i` is still kept, every later lane whose overlap with it (`row`) exceeds 0.6 is dropped. -/
def nmsSub (row : FVec F S1x1024 .f32) (i : BitVec 32) (keep : FVec F S1x1024 .f32) : FVec F S1x1024 .f32 :=
  mulf keep (subf (broadcast S1x1024 (Scalar.ofBits .f32 0x3F800000#32))
    (sitofp .f32 (extui 32 (andi (andi (cmpf .ogt row (broadcast S1x1024 (Scalar.ofBits .f32 0x3F19999A#32)))
        (cmpi .sgt (iota .tc S1x1024 32 [1] iota_S1x1024_d1_w32) (broadcast S1x1024 i)))
      (broadcast S1x1024 (Scalar.cmpf .ogt (extractAt ![0, 0, 0] (shapeCast S1x1x1 (multiReduction .add [1, 2] S1
        (shapeCast S1x1x1024 (select (cmpi .eq (iota .tc S1x1024 32 [1] iota_S1x1024_d1_w32) (broadcast S1x1024 i)) keep
          (broadcast S1x1024 (Scalar.ofBits .f32 0x00000000#32))) shapeCasts_S1x1024_S1x1x1024)
        0x00000000#32 reduces_S1x1x1024_S1 (.inl rfl) rfl) shapeCasts_S1_S1x1x1) inpos_S1x1x1_p0_0_0)
        (Scalar.ofBits .f32 0x3F000000#32)))) natLt_1_32)))

/-- The eight suppressions of one trip, over the trip's eight rows of overlaps. -/
def nmsTrip (blk : Vec F S8x1024 .f32) (t : BitVec 32) (keep : FVec F S1x1024 .f32) : FVec F S1x1024 .f32 :=
  nmsSub (extractStridedSlice S1x1024 ![7, 0] blk slices_S8x1024_o7_0_S1x1024) (Scalar.addi (Scalar.muli t 8#32) 7#32) <|
  nmsSub (extractStridedSlice S1x1024 ![6, 0] blk slices_S8x1024_o6_0_S1x1024) (Scalar.addi (Scalar.muli t 8#32) 6#32) <|
  nmsSub (extractStridedSlice S1x1024 ![5, 0] blk slices_S8x1024_o5_0_S1x1024) (Scalar.addi (Scalar.muli t 8#32) 5#32) <|
  nmsSub (extractStridedSlice S1x1024 ![4, 0] blk slices_S8x1024_o4_0_S1x1024) (Scalar.addi (Scalar.muli t 8#32) 4#32) <|
  nmsSub (extractStridedSlice S1x1024 ![3, 0] blk slices_S8x1024_o3_0_S1x1024) (Scalar.addi (Scalar.muli t 8#32) 3#32) <|
  nmsSub (extractStridedSlice S1x1024 ![2, 0] blk slices_S8x1024_o2_0_S1x1024) (Scalar.addi (Scalar.muli t 8#32) 2#32) <|
  nmsSub (extractStridedSlice S1x1024 ![1, 0] blk slices_S8x1024_o1_0_S1x1024) (Scalar.addi (Scalar.muli t 8#32) 1#32) <|
  nmsSub (extractStridedSlice S1x1024 ![0, 0] blk slices_S8x1024_o0_0_S1x1024) (Scalar.addi (Scalar.muli t 8#32) 0#32) keep

/-- Trip `k`'s eight rows of the overlaps. -/
def nmsBlk (f9 : C9 F) (k : Fin k0_t1_loop.trips) : Vec F S8x1024 .f32 :=
  View.readAt (Elt F) M9.view (Rect.unit (s := S1024x1024) (k0_off5 k) S8x1024.size (k0_off5_inb k)).toLoadRect f9

/-- The kept lanes before trip `k`. -/
def nmsSt (f9 : C9 F) (init : FVec F S1x1024 .f32) : ℕ → FVec F S1x1024 .f32
  | 0 => init
  | k + 1 => if h : k < k0_t1_loop.trips then nmsTrip (nmsBlk f9 ⟨k, h⟩) (Scf.iv 0#32 1#32 (⟨k, h⟩ : Fin k0_t1_loop.trips)) (nmsSt f9 init k)
    else nmsSt f9 init k

theorem nmsSt_succ (f9 : C9 F) (init : FVec F S1x1024 .f32) (k : Fin k0_t1_loop.trips) :
    nmsSt f9 init (k.val + 1) = nmsTrip (nmsBlk f9 k) (Scf.iv 0#32 1#32 k) (nmsSt f9 init k.val) := dif_pos k.isLt

/-- The lane numbers, as the kernel lists them. -/
abbrev lanes : IVec S1x1024 32 := iota .tc S1x1024 32 [1] iota_S1x1024_d1_w32

set_option warn.classDefReducibility false in
/-- The suppression loop by its invariant: before trip `k` the kept lanes are `nmsSt … k`. -/
@[sl_loop] def loopInv_nms (c : Dev nD) (f9 : C9 F) (init : FVec F S1x1024 .f32) :
    Gen.LoopInvTy_k0_t1 (F := F) Unit ℕ UU ℕ 𝒱₀ c none Set.univ M0 (Memref.isWhole_whole _) M1 (Memref.isWhole_whole _)
      M2 (Memref.isWhole_whole _) M3 (Memref.isWhole_whole _) M4 (Memref.isWhole_whole _) M5 (Memref.isWhole_whole _)
      M6 (Memref.isWhole_whole _) M7 (Memref.isWhole_whole _) M8 (Memref.isWhole_whole _) M9 (Memref.isWhole_whole _) lanes init where
  inv := fun k acc => iprop(pt c M9 f9 ∗ ⌜acc = nmsSt f9 init k⌝)
  step := fun k acc => by
    iintro ⟨H9, %h⟩
    subst h
    rw [nmsSt_succ]
    generalize nmsSt f9 init k.val = keep
    unfold k0_t1_body
    sl_exec_parts
    rw [wp_ret]; imodintro
    isplitl [H9]; · iexact H9
    ipureintro
    rfl

/-- The lane the selection's trip takes: the smallest at which the largest score left is reached. -/
def amOf (acc : FVec F S1x1024 .f32) : BitVec 32 := extractAt ![0, 0, 0] (k0_pay5 acc) inpos_S1x1x1_p0_0_0

/-- The lane the selection takes is always one of the 1024 rows. -/
def LaneOk (F : FTy → Type) [FloatOps F] : Prop := ∀ acc : FVec F S1x1024 .f32, k0_chk3 (amOf acc)

/-- The selection loop's state: the scores left, and the two results. -/
structure TSt (F : FTy → Type) [FloatOps F] where
  acc : FVec F S1x1024 .f32
  f3 : C3 F
  f4 : C4 F

/-- One trip of the selection. -/
def t2step (hL : LaneOk F) (f8 : C8 F) (k : Fin k0_t2_loop.trips) (σ : TSt F) : TSt F :=
  { acc := k0_pay7 σ.acc
    f3 := M3.view.writes (Elt F) σ.f3 [⟨Rect.unit (s := S100x4) (k0_off7 k) S1x4.size (k0_off7_inb k),
      View.readAt (Elt F) M8.view (Rect.unit (s := S1024x4) (k0_off6 (amOf σ.acc)) S1x4.size (k0_off6_inb _ (hL σ.acc))).toLoadRect f8⟩]
    f4 := M4.view.writes (Elt F) σ.f4 [⟨Rect.unit (s := S100x1) (k0_off8 k) S1x1.size (k0_off8_inb k), k0_pay6 σ.acc⟩] }

/-- The state before trip `k`. -/
def t2st (hL : LaneOk F) (f8 : C8 F) (σ : TSt F) : ℕ → TSt F
  | 0 => σ
  | k + 1 => if h : k < k0_t2_loop.trips then t2step hL f8 ⟨k, h⟩ (t2st hL f8 σ k) else t2st hL f8 σ k

theorem t2st_succ (hL : LaneOk F) (f8 : C8 F) (σ : TSt F) (k : Fin k0_t2_loop.trips) :
    t2st hL f8 σ (k.val + 1) = t2step hL f8 k (t2st hL f8 σ k.val) := dif_pos k.isLt

set_option warn.classDefReducibility false in
/-- The selection loop by its invariant: before trip `k` the results and the carried scores are `t2st … k`. -/
@[sl_loop] def loopInv_sel (c : Dev nD) (hL : LaneOk F) (f8 : C8 F) (f3 : C3 F) (f4 : C4 F) (init : FVec F S1x1024 .f32) :
    Gen.LoopInvTy_k0_t2 (F := F) Unit ℕ UU ℕ 𝒱₀ c none Set.univ M0 (Memref.isWhole_whole _) M1 (Memref.isWhole_whole _)
      M2 (Memref.isWhole_whole _) M3 (Memref.isWhole_whole _) M4 (Memref.isWhole_whole _) M5 (Memref.isWhole_whole _)
      M6 (Memref.isWhole_whole _) M7 (Memref.isWhole_whole _) M8 (Memref.isWhole_whole _) M9 (Memref.isWhole_whole _) init where
  inv := fun k acc => iprop(pt c M8 f8 ∗ pt c M3 (t2st hL f8 ⟨init, f3, f4⟩ k).f3 ∗ pt c M4 (t2st hL f8 ⟨init, f3, f4⟩ k).f4
    ∗ ⌜acc = (t2st hL f8 ⟨init, f3, f4⟩ k).acc⌝)
  step := fun k acc => by
    iintro ⟨H8, H3, H4, %h⟩
    subst h
    rw [t2st_succ]
    have h3 := hL (t2st hL f8 ⟨init, f3, f4⟩ k.val).acc
    unfold amOf at h3
    unfold k0_t2_body
    sl_exec
    rw [wp_ret]; imodintro
    unfold t2step amOf loopInv_sel.sl.v1224
    dsimp only
    isplitl [H8]; · iexact H8
    isplitl [H3]; · iexact H3
    isplitl [H4]; · iexact H4
    ipureintro; rfl

section Whole

variable {b : Ref sig .tc}

/-- One write to a whole buffer, read at a place it covers. -/
theorem whole_hit (f : b.ty.Contents (Elt F)) (r : Rect b.ty.shape) (w : r.shape.Idx → Elt F b.ty.elt) (x : r.shape.Idx) (y : b.ty.Idx)
    (hx : ∀ a, (y a).val = r.off a + r.stride a * (x a).val) : (View.whole b).writes (Elt F) f [⟨r, w⟩] y = w x :=
  View.read_writes_cons_hit_of_coords (View.whole b) f r w [] x y hx

/-- One write to a whole buffer, read off its rectangle. -/
theorem whole_miss (f : b.ty.Contents (Elt F)) (r : Rect b.ty.shape) (w : r.shape.Idx → Elt F b.ty.elt) (y : b.ty.Idx)
    (a : Fin b.ty.shape.rank) (hst : r.stride a = 1) (h : (y a).val < r.off a ∨ r.off a + r.size a ≤ (y a).val) :
    (View.whole b).writes (Elt F) f [⟨r, w⟩] y = f y :=
  View.read_writes_cons_miss_of_axis (View.whole b) f ⟨r, w⟩ [] y a _ _ rfl hst rfl h

end Whole

/-- The scores left before trip `k` of the selection. -/
def selAcc (acc : FVec F S1x1024 .f32) : ℕ → FVec F S1x1024 .f32
  | 0 => acc
  | k + 1 => k0_pay7 (selAcc acc k)

/-- Coordinate `j` of the box the selection takes from scores `acc`. -/
def boxAt (hL : LaneOk F) (f8 : C8 F) (acc : FVec F S1x1024 .f32) (j : Fin 4) : F .f32 :=
  View.readAt (Elt F) M8.view (Rect.unit (s := S1024x4) (k0_off6 (amOf acc)) S1x4.size (k0_off6_inb _ (hL _))).toLoadRect f8
    (ix2 (n0 := 1) (n1 := 4) 0 j)

/-- The boxes the selection writes: row `i` is the row of `f8` that trip `i` takes. -/
def boxOut (hL : LaneOk F) (f8 : C8 F) (acc : FVec F S1x1024 .f32) : C3 F := fun y => boxAt hL f8 (selAcc acc (y 0).val) (y 1)

/-- The scores the selection writes: entry `i` is the largest score left before trip `i`. -/
def scoreOut (acc : FVec F S1x1024 .f32) : C4 F := fun y =>
  k0_pay6 (selAcc acc (y 0).val) (ix2 (n0 := 1) (n1 := 1) 0 0)

theorem trips2 : k0_t2_loop.trips = 100 := by decide +kernel

theorem off7_val : ∀ k : Fin k0_t2_loop.trips, k0_off7 k 0 = k.val ∧ k0_off7 k 1 = 0 := by decide +kernel
theorem off8_val : ∀ k : Fin k0_t2_loop.trips, k0_off8 k 0 = k.val ∧ k0_off8 k 1 = 0 := by decide +kernel

theorem t2st_acc (hL : LaneOk F) (f8 : C8 F) (σ : TSt F) : ∀ k, k ≤ k0_t2_loop.trips → (t2st hL f8 σ k).acc = selAcc σ.acc k
  | 0, _ => rfl
  | k + 1, h => by
    rw [t2st, dif_pos (show k < k0_t2_loop.trips from h)]
    show k0_pay7 (t2st hL f8 σ k).acc = k0_pay7 (selAcc σ.acc k)
    rw [t2st_acc hL f8 σ k (Nat.le_of_succ_le h)]

theorem t2st_f3 (hL : LaneOk F) (f8 : C8 F) (σ : TSt F) (y : S100x4.Idx) : ∀ k, k ≤ k0_t2_loop.trips →
    (t2st hL f8 σ k).f3 y = if (y 0).val < k then boxOut hL f8 σ.acc y else σ.f3 y
  | 0, _ => rfl
  | k + 1, h => by
    have hk : k < k0_t2_loop.trips := h
    have ih := t2st_f3 hL f8 σ y k (Nat.le_of_succ_le h)
    rw [t2st, dif_pos hk]
    obtain ⟨e0, e1⟩ := off7_val ⟨k, hk⟩
    unfold t2step
    dsimp only
    by_cases hy : (y 0).val = k
    · rw [if_pos (by omega)]
      have ha := t2st_acc hL f8 σ k (Nat.le_of_succ_le h)
      refine (whole_hit (F := F) (b := cc0_stg3_0) _ (Rect.unit (s := S100x4) (k0_off7 ⟨k, hk⟩) S1x4.size (k0_off7_inb _)) _
        (ix2 (n0 := 1) (n1 := 4) 0 (y 1)) y ?_).trans ?_
      · intro a
        fin_cases a
        · show (y 0).val = k0_off7 ⟨k, hk⟩ 0 + 1 * 0; rw [e0]; exact hy
        · show (y 1).val = k0_off7 ⟨k, hk⟩ 1 + 1 * (y 1).val; omega
      · unfold boxOut
        subst hy
        rw [← ha]; rfl
    · refine (whole_miss (F := F) (b := cc0_stg3_0) _ (Rect.unit (s := S100x4) (k0_off7 ⟨k, hk⟩) S1x4.size (k0_off7_inb _)) _ y 0 rfl ?_).trans (ih.trans ?_)
      · show (y 0).val < k0_off7 ⟨k, hk⟩ 0 ∨ k0_off7 ⟨k, hk⟩ 0 + 1 ≤ (y 0).val
        have hkv : (⟨k, hk⟩ : Fin k0_t2_loop.trips).val = k := rfl
        omega
      · by_cases h2 : (y 0).val < k
        · rw [if_pos h2, if_pos (by omega)]
        · rw [if_neg h2, if_neg (by omega)]

theorem t2st_f4 (hL : LaneOk F) (f8 : C8 F) (σ : TSt F) (y : S100x1.Idx) : ∀ k, k ≤ k0_t2_loop.trips →
    (t2st hL f8 σ k).f4 y = if (y 0).val < k then scoreOut σ.acc y else σ.f4 y
  | 0, _ => rfl
  | k + 1, h => by
    have hk : k < k0_t2_loop.trips := h
    have ih := t2st_f4 hL f8 σ y k (Nat.le_of_succ_le h)
    rw [t2st, dif_pos hk]
    obtain ⟨e0, e1⟩ := off8_val ⟨k, hk⟩
    unfold t2step
    dsimp only
    have hy1 : (y 1).val = 0 := by have := (y 1).isLt; exact Nat.lt_one_iff.mp this
    by_cases hy : (y 0).val = k
    · rw [if_pos (by omega)]
      have ha := t2st_acc hL f8 σ k (Nat.le_of_succ_le h)
      refine (whole_hit (F := F) (b := cc0_stg4_0) _ (Rect.unit (s := S100x1) (k0_off8 ⟨k, hk⟩) S1x1.size (k0_off8_inb _)) _
        (ix2 (n0 := 1) (n1 := 1) 0 0) y ?_).trans ?_
      · intro a
        fin_cases a
        · show (y 0).val = k0_off8 ⟨k, hk⟩ 0 + 1 * 0; rw [e0]; exact hy
        · show (y 1).val = k0_off8 ⟨k, hk⟩ 1 + 1 * 0; omega
      · unfold scoreOut
        subst hy
        rw [ha]
    · refine (whole_miss (F := F) (b := cc0_stg4_0) _ (Rect.unit (s := S100x1) (k0_off8 ⟨k, hk⟩) S1x1.size (k0_off8_inb _)) _ y 0 rfl ?_).trans (ih.trans ?_)
      · show (y 0).val < k0_off8 ⟨k, hk⟩ 0 ∨ k0_off8 ⟨k, hk⟩ 0 + 1 ≤ (y 0).val
        have hkv : (⟨k, hk⟩ : Fin k0_t2_loop.trips).val = k := rfl
        omega
      · by_cases h2 : (y 0).val < k
        · rw [if_pos h2, if_pos (by omega)]
        · rw [if_neg h2, if_neg (by omega)]

/-- After the selection the results hold its boxes and scores, whatever they held before. -/
theorem sel_f3 (hL : LaneOk F) (f8 : C8 F) (acc : FVec F S1x1024 .f32) (f3 : C3 F) (f4 : C4 F) :
    (t2st hL f8 ⟨acc, f3, f4⟩ (Scf.trips k0_t2_loop.lb k0_t2_loop.ub k0_t2_loop.st)).f3 = boxOut hL f8 acc := by
  funext y
  have h := t2st_f3 hL f8 ⟨acc, f3, f4⟩ y k0_t2_loop.trips le_rfl
  rw [if_pos (by rw [trips2]; exact (y 0).isLt)] at h
  exact h

theorem sel_f4 (hL : LaneOk F) (f8 : C8 F) (acc : FVec F S1x1024 .f32) (f3 : C3 F) (f4 : C4 F) :
    (t2st hL f8 ⟨acc, f3, f4⟩ (Scf.trips k0_t2_loop.lb k0_t2_loop.ub k0_t2_loop.st)).f4 = scoreOut acc := by
  funext y
  have h := t2st_f4 hL f8 ⟨acc, f3, f4⟩ y k0_t2_loop.trips le_rfl
  rw [if_pos (by rw [trips2]; exact (y 0).isLt)] at h
  exact h

/-- What the picks' scratch is filled with before the first pick. -/
def picks0 (F : FTy → Type) [FloatOps F] : C7 F := k0_pay167 k0_pay166

theorem fill_whole (f7 : C7 F) (w : Vec F S1024x16 .f32) : M7.view.writes (Elt F) f7
    [⟨Rect.unit (s := S1024x16) ![0, 0] S1024x16.size inb_S1024x16_S1024x16_0_0, w⟩] = w :=
  funext fun y => whole_hit (b := cc0_scratch2) f7
    (Rect.unit (s := S1024x16) ![0, 0] S1024x16.size inb_S1024x16_S1024x16_0_0) w y y fun a => by
      match a with
      | ⟨0, _⟩ => exact ((Nat.zero_add _).trans (Nat.one_mul _)).symm
      | ⟨1, _⟩ => exact ((Nat.zero_add _).trans (Nat.one_mul _)).symm

/-- The picks' scratch filled whole holds the fill. -/
theorem picks0_eq (f7 : C7 F) : M7.view.writes (Elt F) f7
    [⟨Rect.unit (s := S1024x16) ![0, 0] S1024x16.size inb_S1024x16_S1024x16_0_0, k0_pay167 k0_pay166⟩] = picks0 F :=
  fill_whole f7 _

end Cert.Proof.KernelIdeal

end
-- ==== Proof.KRunBody.lean ====
/-
  The kernel's body on its whole buffers, run once: the scores, the pick loop (`wrun`), the suppression loop (`nmsSt`) and
  the selection loop (`boxOut`, `scoreOut`).
-/
module

public import proofs.«01_k».proof.Proof.KBody
@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

set_option maxHeartbeats 4000000 in
/-- The kernel's body on its whole buffers, from any contents of its scratch and results: the boxes and the scores the
    selection starts from depend on the three inputs alone. -/
def body_run (hR : RowsOk F) (hL : LaneOk F) (f0 : C0 F) (f1 : C1 F) (f2 : C2 F) :
    { W : C8 F × FVec F S1x1024 .f32 // ∀ (c : Dev nD) (f3 : C3 F) (f4 : C4 F)
      (f5 : C5 F) (f6 : C6 F) (f7 : C7 F) (f8 : C8 F) (f9 : C9 F),
    iprop(pt c M0 f0 ∗ pt c M1 f1 ∗ pt c M2 f2 ∗ pt c M3 f3 ∗ pt c M4 f4 ∗ pt c M5 f5 ∗ pt c M6 f6 ∗ pt c M7 f7
        ∗ pt c M8 f8 ∗ pt c M9 f9)
      ⊢ wp frame (wpE (defs₀ (F := F)) 𝒱₀ (c : Thread nD τ) none) Set.univ
          (cc0__paa_kernel M0 (Memref.isWhole_whole _) M1 (Memref.isWhole_whole _)
      M2 (Memref.isWhole_whole _) M3 (Memref.isWhole_whole _) M4 (Memref.isWhole_whole _) M5 (Memref.isWhole_whole _)
      M6 (Memref.isWhole_whole _) M7 (Memref.isWhole_whole _) M8 (Memref.isWhole_whole _) M9 (Memref.isWhole_whole _)) fun _ =>
      iprop(pt c M0 f0 ∗ pt c M1 f1 ∗ pt c M2 f2 ∗ pt c M3 (boxOut hL W.1 W.2) ∗ pt c M4 (scoreOut W.2)
        ∗ ∃ g5 g6 g7 g8 g9, pt c M5 g5 ∗ pt c M6 g6 ∗ pt c M7 g7 ∗ pt c M8 g8 ∗ pt c M9 g9) } := by
  refine ⟨(?_, ?_), ?_⟩
  rotate_left 2
  intro c f3 f4 f5 f6 f7 f8 f9
  dsimp only
  iintro ⟨H0, H1, H2, H3, H4, H5, H6, H7, H8, H9⟩
  sl_exec_parts
  have e5 : M5.view.writes (Elt F) f5 (body_run.sl.H5_40 f0 f2) = M5.view.writes (Elt F) M5.view.junk (body_run.sl.H5_40 f0 f2) :=
    funext fun y => View.read_writes_apply_eq (View.whole cc0_scratch0) f5 (View.whole cc0_scratch0) _ y _
      (View.cover_of_tiled (body_run.sl.H5_40 f0 f2) ![500, 80] rfl y)
  rw [e5, picks0_eq]
  have hT := spec_le (F := F) c body_run.sl.v840 body_run.sl.v841 f1 hR 1000
    ⟨0, k0_pay168 (body_run.sl.v856 f0 f2), body_run.sl.v856 f0 f2, M5.view.writes (Elt F) M5.view.junk (body_run.sl.H5_40 f0 f2),
      picks0 F⟩ (Nat.zero_add _) (by dsimp only)
  dsimp only at hT
  generalize hk : 1000 = fuel at hT
  iapply (wp_call_spec 𝒱₀ (c : Thread nD τ) none Set.univ (spec c body_run.sl.v840 body_run.sl.v841 f1 fuel _) fuel (fun u hu => nomatch hu) hT)
  rw [spec_apply]; unfold held
  isplitl [H1 H5 H7]
  · isplitl [H1]; · iexact H1
    isplitl [H5]; · iexact H5
    iexact H7
  iintro %r ⟨H1, H5, H7⟩
  generalize hs7 : (wrun (F := F) body_run.sl.v840 body_run.sl.v841 f1 fuel _).s7 = s7
  generalize hs5 : (wrun (F := F) body_run.sl.v840 body_run.sl.v841 f1 fuel _).s5 = s5
  sl_exec_parts
  sl_exec
  rw [wp_ret]; imodintro
  rw [sel_f3, sel_f4]
  subst hs7 hk
  isplitl [H0]; · iexact H0
  isplitl [H1]; · iexact H1
  isplitl [H2]; · iexact H2
  isplitl [H3]; · iexact H3
  isplitl [H4]; · iexact H4
  iexists _, _, _, _, _
  isplitl [H5]; · iexact H5
  isplitl [H6]; · iexact H6
  isplitl [H7]; · iexact H7
  isplitl [H8]; · iexact H8
  iexact H9

end Cert.Proof.KernelIdeal

end
-- ==== Proof.KRun.lean ====
/-
  The kernel's launch: the body's obligation to the pipeline, and the run of the whole program from it.
-/
module

public import proofs.«01_k».proof.Proof.KRunBody
public import Idealize.ShloMosaic.Lib.Pipeline.FrameSuffix
@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg BodyObligation)

variable {F : FTy → Type} [FloatOps F]

local notation "𝕄" => MT nD τ sig Unit (Elt F) ℕ UU ℕ

/-! ### What the pipeline fetches and leaves -/

variable (m : (ℓ : Loc nD τ sig) → Buf (Elt F) ℓ)

/-- Core `c`'s buffers at the region's entry: the launch contents after the two host operations before it. -/
def V1 (c : Dev nD) : Valuation τ sig (Elt F) := StableHlo.after hostOps0 (fun b => m (c, b))

/-- The three inputs as fetched: whole. -/
def in0 (c : Dev nD) : C0 F := (win0_0.blk t0_0).view.read (Elt F) (V1 m c (Proc.devRef .tc main_arg0))
def in1 (c : Dev nD) : C1 F := (win0_1.blk t0_0).view.read (Elt F) (V1 m c (Proc.devRef .tc main_v0))
def in2 (c : Dev nD) : C2 F := (win0_2.blk t0_0).view.read (Elt F) (V1 m c (Proc.devRef .tc main_v1))

/-- The scratch boxes and the scores the selection starts from, on core `c`'s inputs. -/
def selIn (hR : RowsOk F) (hL : LaneOk F) (c : Dev nD) : C8 F × FVec F S1x1024 .f32 :=
  (body_run hR hL (in0 m c) (in1 m c) (in2 m c)).1

/-- The two results the body leaves. -/
def out3 (hR : RowsOk F) (hL : LaneOk F) (c : Dev nD) : C3 F := boxOut hL (selIn m hR hL c).1 (selIn m hR hL c).2
def out4 (hR : RowsOk F) (hL : LaneOk F) (c : Dev nD) : C4 F := scoreOut (selIn m hR hL c).2

/-- The proof data of the one pipeline: inputs as fetched, results at `out3` and `out4`; the scratch carries nothing. -/
def dats (hR : RowsOk F) (hL : LaneOk F) (_ : Fin 1) (c : Dev nD) : Dat τ (Elt F) Unit ℕ UU ℕ (cfg0 (F := F)) c where
  A w := V1 m c (Proc.devRef .tc (Pipeline.arrRef spec0 w))
  after w _ := match w with
    | ⟨0, _⟩ => in0 m c
    | ⟨1, _⟩ => in1 m c
    | ⟨2, _⟩ => in2 m c
    | ⟨3, _⟩ => out3 m hR hL c
    | ⟨4, _⟩ => out4 m hR hL c
  Φ _ := Pipeline.ΦA spec0 c
  q _ := fullShare
  owed _ := 0

variable (hR : RowsOk F) (hL : LaneOk F)

/-- A staging buffer at contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Owning a whole buffer at `X` is its points-to at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem fin_N (t : Fin (cfg0 (F := F)).N) : t = t0_0 := fin_N0 t

theorem bigSep_W (Φ : Fin (cfg0 (F := F)).W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- The one grid point, typed for the configuration. -/
abbrev tt : Fin (cfg0 (F := F)).N := t0_0

theorem after_0 (c : Dev nD) (t : Fin (cfg0 (F := F)).N) : (dats m hR hL 0 c).after 0 t = in0 m c := by dsimp only [dats]; rfl
theorem after_1 (c : Dev nD) (t : Fin (cfg0 (F := F)).N) : (dats m hR hL 0 c).after 1 t = in1 m c := by dsimp only [dats]; rfl
theorem after_2 (c : Dev nD) (t : Fin (cfg0 (F := F)).N) : (dats m hR hL 0 c).after 2 t = in2 m c := by dsimp only [dats]; rfl
theorem after_3 (c : Dev nD) (t : Fin (cfg0 (F := F)).N) : (dats m hR hL 0 c).after 3 t = out3 m hR hL c := by dsimp only [dats]; rfl
theorem after_4 (c : Dev nD) (t : Fin (cfg0 (F := F)).N) : (dats m hR hL 0 c).after 4 t = out4 m hR hL c := by dsimp only [dats]; rfl

/-- What the body is called with at the one point. -/
def bodyPre (c : Dev nD) : sProp 𝕄 :=
  iprop((dats m hR hL 0 c).Φ (tt (F := F)).castSucc ∗ (dats m hR hL 0 c).owesAt () (tt (F := F)).castSucc
    ∗ (∃ d, stg c cc0_stg0_0 ((dats m hR hL 0 c).before (0 : Fin 5) tt d))
    ∗ (∃ d, stg c cc0_stg1_0 ((dats m hR hL 0 c).before (1 : Fin 5) tt d))
    ∗ (∃ d, stg c cc0_stg2_0 ((dats m hR hL 0 c).before (2 : Fin 5) tt d))
    ∗ (∃ d, stg c cc0_stg3_0 ((dats m hR hL 0 c).before (3 : Fin 5) tt d))
    ∗ (∃ d, stg c cc0_stg4_0 ((dats m hR hL 0 c).before (4 : Fin 5) tt d)))

/-- And what it returns. -/
def bodyPost (c : Dev nD) : sProp 𝕄 :=
  iprop((dats m hR hL 0 c).Φ (tt (F := F)).succ ∗ (dats m hR hL 0 c).owesAt () (tt (F := F)).succ
    ∗ stg c cc0_stg0_0 (in0 m c) ∗ stg c cc0_stg1_0 (in1 m c) ∗ stg c cc0_stg2_0 (in2 m c)
    ∗ stg c cc0_stg3_0 (out3 m hR hL c) ∗ stg c cc0_stg4_0 (out4 m hR hL c))

theorem sound_body (c : Dev nD) :
    bodyPre m hR hL c
      ⊢ wp frame (wpE (defs₀ (F := F)) 𝒱₀ (c : Thread nD τ) none) Set.univ
          (cc0__paa_kernel M0 (Memref.isWhole_whole _) M1 (Memref.isWhole_whole _)
      M2 (Memref.isWhole_whole _) M3 (Memref.isWhole_whole _) M4 (Memref.isWhole_whole _) M5 (Memref.isWhole_whole _)
      M6 (Memref.isWhole_whole _) M7 (Memref.isWhole_whole _) M8 (Memref.isWhole_whole _) M9 (Memref.isWhole_whole _)) fun _ =>
        bodyPost m hR hL c := by
  unfold bodyPre
  rw [show (dats m hR hL 0 c).Φ (tt (F := F)).castSucc = iprop(Pipeline.scopedRest spec0 c ∗ ∃ r, prngReg c r) from rfl, scopedRest0_eq]
  iintro ⟨⟨⟨⟨%f5, H5⟩, ⟨%f6, H6⟩, ⟨%f7, H7⟩, ⟨%f8, H8⟩, ⟨%f9, H9⟩⟩, Hp⟩, Howes, ⟨%d0, %f0, %h0, H0⟩, ⟨%d1, %f1, %h1, H1⟩, ⟨%d2, %f2, %h2, H2⟩,
    ⟨%d3, %f3, %h3, H3⟩, ⟨%d4, %f4, %h4, H4⟩⟩
  have e0 : f0 = in0 m c := h0.trans (if_pos (fetch0_0 (F := F) tt))
  have e1 : f1 = in1 m c := h1.trans (if_pos (fetch0_1 (F := F) tt))
  have e2 : f2 = in2 m c := h2.trans (if_pos (fetch0_2 (F := F) tt))
  subst e0 e1 e2
  have hb := (body_run hR hL (in0 m c) (in1 m c) (in2 m c)).2 c f3 f4 f5 f6 f7 f8 f9
  iapply (wp_wand_r frame (wpE (defs₀ (F := F)) 𝒱₀ (c : Thread nD τ) none) Set.univ)
  isplitl [H0 H1 H2 H3 H4 H5 H6 H7 H8 H9]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ ⟨H0, H1, H2, H3, H4, %g5, %g6, %g7, %g8, %g9, H5, H6, H7, H8, H9⟩
  unfold bodyPost
  rw [show (dats m hR hL 0 c).Φ (tt (F := F)).succ = iprop(Pipeline.scopedRest spec0 c ∗ ∃ r, prngReg c r) from rfl, scopedRest0_eq]
  isplitl [Hp H5 H6 H7 H8 H9]
  · isplitl [H5 H6 H7 H8 H9]
    · isplitl [H5]; · iexists _; iexact H5
      isplitl [H6]; · iexists _; iexact H6
      isplitl [H7]; · iexists _; iexact H7
      isplitl [H8]; · iexists _; iexact H8
      iexists _; iexact H9
    iexact Hp
  isplitl [Howes]; · iexact Howes
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem body_obligation (c : Dev nD) :
    BodyObligation (dats (F := F) m hR hL 0 c) (defs₀ (F := F)) 𝒱₀ () Set.univ := fun t => by
  rw [fin_N t]
  rw [bigSep_W, bigSep_W]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl]
  rw [after_0, after_1, after_2, after_3, after_4]
  exact sound_body m hR hL c

theorem share_eq (c : Dev nD) (w : Fin (cfg0 (F := F)).W) : (dats m hR hL 0 c).share w = fullShare := by
  unfold Dat.share; split <;> rfl

/-- Core `c`'s buffers after the region and the host operation after it. -/
def VE (c : Dev nD) (b : Ref sig .tc) : Buf (Elt F) ((c.tc : Thread nD τ).loc b) :=
  Pipeline.afterTail₀ cfgs (dats m hR hL) 0 (V1 m) [hostOps1] c b

/-- The whole program's run: the windows' arrays as the pipeline leaves them, every other buffer at `VE`, no counter left up. -/
theorem run_main (g : Dev nD → PrngReg) :
    θ_run defs (onTc (τ := τ) (main (F := F))) ⟨m, fun _ => 0, g⟩ fun r =>
      (∀ c : Dev nD, (∀ w, r.2.mem (((cfgs (F := F) 0).spec w).arr.view.loc (c.tc : Thread nD τ)) = (dats m hR hL 0 c).arrAt w (cfgs (F := F) 0).N)
        ∧ ∀ b ∈ Pipeline.restRefs sig (cfgs (F := F) 0).spec, r.2.mem ((c.tc : Thread nD τ).loc b) = VE m hR hL c b)
      ∧ r.2.sem = fun _ => 0 :=
  Pipeline.θ_run_frame_around cfgs (dats m hR hL) 0 launch0 defs₀ 𝒱₀ m g main
    (hbody := fun c => (body_obligation m hR hL c).loose) (hshare := share_eq m hR hL) (howed := fun _ _ => rfl)
    (V₀ := V1 m) (opss := [hostOps1])
    (hsub := by
      intro ops ho op h
      rw [Pipeline.tailRefs_none _ launch0.win.arr_unscoped]
      obtain rfl := List.mem_singleton.mp ho
      exact Pipeline.sub_ucRefs op (List.forall_iff_forall_mem.mp hostOps1_sub op h))
    (hfresh := by
      intro ops ho op h
      obtain rfl := List.mem_singleton.mp ho
      obtain rfl := List.mem_singleton.mp h
      rfl)
    (hkeep := by
      intro ops ho op h
      obtain rfl := List.mem_singleton.mp ho
      obtain rfl := List.mem_singleton.mp h
      intro w hw
      have hw' : (Proc.devRef .tc (Pipeline.arrRef spec0 w) : DevRef τ sig) ∈ ({Proc.devRef .tc main_v3} : Finset (DevRef τ sig)) := hw
      exact (by decide : ∀ w, Pipeline.arrRef spec0 w ≠ main_v3) w (Proc.devRef_injective _ (Finset.mem_singleton.mp hw')))
    (hmain := by
      have h := Pipeline.hmain_around (Ix := Unit) (Name := ℕ) (U := UU) (Lvl := ℕ) (cfgs (F := F)) 0 defs₀ 𝒱₀ m main [hostOps0] [hostOps1]
        hostOps0_sub ⟨rfl, rfl⟩ main_chain
      exact h)
    (hA := fun _ _ => rfl) (hΦ := fun _ _ => rfl)
    (Q' := fun r => Pipeline.FramePost cfgs (dats m hR hL) 0 (Pipeline.afterTail₀ cfgs (dats m hR hL) 0 (V1 m) [hostOps1]) r ∧ r.2.sem = fun _ => 0)
    (hQ' := fun _ h => h)

end Cert.Proof.KernelIdeal

end
-- ==== Proof.KIdeal.lean ====
module

public import proofs.«01_k».proof.Proof.KWhile
public import proofs.«01_k».proof.Proof.KBody
public import Idealize.ShloMosaic.Lib.Pointwise

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ### Folds of `max` and of the signed minimum -/

/-- A maximum over a nonempty finite type is attained and bounds every entry. -/
theorem fold_max_spec {ι : Type*} [Fintype ι] [Nonempty ι] (x : ι → EReal) :
    (∀ i, x i ≤ Finset.univ.fold max ⊥ x) ∧ ∃ i, x i = Finset.univ.fold max ⊥ x := by
  refine ⟨fun i => (Finset.le_fold_max _).2 (.inr ⟨i, Finset.mem_univ _, le_rfl⟩), ?_⟩
  obtain ⟨i, hi⟩ := Finite.exists_max x
  refine ⟨i, le_antisymm ((Finset.le_fold_max _).2 (.inr ⟨i, Finset.mem_univ _, le_rfl⟩)) ?_⟩
  exact (Finset.fold_max_le _).2 ⟨bot_le, fun j _ => hi j⟩

/-- The signed minimum of a family is one of the words folded and is below each of them. -/
theorem fold_minsi_spec {ι : Type*} [DecidableEq ι] (s : Finset ι) (b : BitVec 32) (w : ι → BitVec 32) :
    (∀ i ∈ s, (s.fold IntOp.minsi b w).toInt ≤ (w i).toInt)
      ∧ (s.fold IntOp.minsi b w = b ∨ ∃ i ∈ s, s.fold IntOp.minsi b w = w i) := by
  induction s using Finset.induction_on with
  | empty => exact ⟨by simp, .inl (by simp)⟩
  | insert a s ha ih =>
    rw [Finset.fold_insert ha]
    obtain ⟨h1, h2⟩ := ih
    generalize s.fold IntOp.minsi b w = r at h1 h2 ⊢
    unfold IntOp.minsi
    by_cases hlt : (w a).slt r
    · rw [if_pos hlt]
      have hlt' : (w a).toInt < r.toInt := by simpa [BitVec.slt] using hlt
      refine ⟨fun i hi => ?_, .inr ⟨a, Finset.mem_insert_self _ _, rfl⟩⟩
      rcases Finset.mem_insert.1 hi with rfl | hi
      · exact le_rfl
      · exact hlt'.le.trans (h1 i hi)
    · rw [if_neg hlt]
      have hlt' : r.toInt ≤ (w a).toInt := by simpa [BitVec.slt] using hlt
      refine ⟨fun i hi => ?_, ?_⟩
      · rcases Finset.mem_insert.1 hi with rfl | hi
        · exact hlt'
        · exact h1 i hi
      · rcases h2 with h | ⟨i, hi, h⟩
        · exact .inl h
        · exact .inr ⟨i, Finset.mem_insert_of_mem hi, h⟩

theorem toInt_small (n : ℕ) (h : n < 1073741824) : (BitVec.ofNat 32 n).toInt = n := by
  rw [BitVec.toInt_ofNat']
  exact Int.bmod_eq_of_le (by omega) (by omega)

/-- The smallest number among those hit: what the minimum over "the number where hit, a large word elsewhere" computes. -/
theorem fold_minsi_least {ι : Type*} [DecidableEq ι] [Fintype ι] (w : ι → BitVec 32) (P : ι → Prop) [DecidablePred P] (num : ι → ℕ)
    (hw : ∀ i, w i = if P i then BitVec.ofNat 32 (num i) else 1073741824#32) (hn : ∀ i, num i < 1073741824) (i₀ : ι) (h₀ : P i₀) :
    ∃ i, P i ∧ Finset.univ.fold IntOp.minsi 2147483647#32 w = BitVec.ofNat 32 (num i) ∧ ∀ j, P j → num i ≤ num j := by
  obtain ⟨h1, h2⟩ := fold_minsi_spec Finset.univ 2147483647#32 w
  generalize Finset.univ.fold IntOp.minsi 2147483647#32 w = r at h1 h2 ⊢
  have hle : ∀ j, P j → r.toInt ≤ num j := fun j hj => by
    have := h1 j (Finset.mem_univ _)
    rwa [hw, if_pos hj, toInt_small _ (hn j)] at this
  have h0 := hle i₀ h₀
  have hn0 := hn i₀
  rcases h2 with rfl | ⟨i, -, rfl⟩
  · have : (2147483647#32 : BitVec 32).toInt = 2147483647 := by decide
    omega
  · by_cases hi : P i
    · refine ⟨i, hi, by rw [hw, if_pos hi], fun j hj => ?_⟩
      have := hle j hj
      rw [hw, if_pos hi, toInt_small _ (hn i)] at this
      exact_mod_cast this
    · exfalso
      rw [hw, if_neg hi] at h0
      have : (1073741824#32 : BitVec 32).toInt = 1073741824 := by decide
      omega

/-! ### The rows' maxima and the row picked -/

/-- The flat row number of an entry of the 40 × 500 arrangement. -/
def rowNum (k : Fin 40 × Fin 500) : ℕ := 500 * k.1.val + k.2.val

theorem negInf : Ideal.ofBits .f32 0xFF800000#32 = ⊥ := by simp [Ideal.ofBits, Ideal.ieee]

theorem pay168_fold (rm : FVec Ideal S40x500 .f32) :
    k0_pay168 rm = (Finset.univ : Finset (Fin 40 × Fin 500)).fold max ⊥ fun k => rm (ix2 k.1 k.2) := by
  pointwise [k0_pay168]
  rw [negInf]

theorem pay165_apply (k : Fin 40 × Fin 500) : k0_pay165 (ix2 k.1 k.2) = BitVec.ofNat 32 (rowNum k) := by
  pointwise [k0_pay165]
  unfold IntOp.addi IntOp.muli rowNum
  rw [BitVec.ofNat_add, BitVec.ofNat_mul, BitVec.mul_comm]

theorem rrOf_fold (v : Ideal .f32) (rm : FVec Ideal S40x500 .f32) :
    rrOf v rm = (Finset.univ : Finset (Fin 40 × Fin 500)).fold IntOp.minsi 2147483647#32 fun k =>
      if rm (ix2 k.1 k.2) = v then BitVec.ofNat 32 (rowNum k) else 1073741824#32 := by
  unfold rrOf
  pointwise [k0_pay212]
  simp only [pay165_apply]

theorem pay4_fold (acc : FVec Ideal S1x1024 .f32) :
    k0_pay4 acc = (Finset.univ : Finset (Fin 1 × Fin 1024)).fold max ⊥ fun k => acc (ix2 0 k.2) := by
  pointwise [k0_pay4]
  rw [negInf]

theorem amOf_fold (acc : FVec Ideal S1x1024 .f32) :
    amOf acc = (Finset.univ : Finset (Fin 1 × Fin 1024)).fold IntOp.minsi 2147483647#32 fun k =>
      if acc (ix2 0 k.2) = k0_pay4 acc then BitVec.ofNat 32 k.2.val else 1073741824#32 := by
  unfold amOf
  pointwise [k0_pay5]

/-- The largest of the rows' maxima bounds them and is one of them. -/
theorem pay168_spec (rm : FVec Ideal S40x500 .f32) :
    (∀ k : Fin 40 × Fin 500, rm (ix2 k.1 k.2) ≤ k0_pay168 rm) ∧ ∃ k : Fin 40 × Fin 500, rm (ix2 k.1 k.2) = k0_pay168 rm := by
  rw [pay168_fold]; exact fold_max_spec (fun k : Fin 40 × Fin 500 => rm (ix2 k.1 k.2))

/-- The row picked is the first whose maximum is the largest. -/
theorem rrOf_spec (rm : FVec Ideal S40x500 .f32) :
    ∃ k : Fin 40 × Fin 500, rm (ix2 k.1 k.2) = k0_pay168 rm ∧ rrOf (k0_pay168 rm) rm = BitVec.ofNat 32 (rowNum k)
      ∧ ∀ j : Fin 40 × Fin 500, rm (ix2 j.1 j.2) = k0_pay168 rm → rowNum k ≤ rowNum j := by
  obtain ⟨k₀, h₀⟩ := (pay168_spec rm).2
  rw [rrOf_fold]
  exact fold_minsi_least _ (fun k : Fin 40 × Fin 500 => rm (ix2 k.1 k.2) = k0_pay168 rm) rowNum (fun _ => rfl)
    (fun k => by unfold rowNum; omega) k₀ h₀

/-- The largest score left among the lanes bounds them and is one of them. -/
theorem pay4_spec (acc : FVec Ideal S1x1024 .f32) :
    (∀ k : Fin 1024, acc (ix2 0 k) ≤ k0_pay4 acc) ∧ ∃ k : Fin 1024, acc (ix2 0 k) = k0_pay4 acc := by
  rw [pay4_fold]
  obtain ⟨h1, k, h2⟩ := fold_max_spec (fun k : Fin 1 × Fin 1024 => acc (ix2 0 k.2))
  exact ⟨fun k => h1 (0, k), k.2, h2⟩

/-- The lane picked is the first whose score is the largest. -/
theorem amOf_spec (acc : FVec Ideal S1x1024 .f32) :
    ∃ k : Fin 1024, acc (ix2 0 k) = k0_pay4 acc ∧ amOf acc = BitVec.ofNat 32 k.val
      ∧ ∀ j : Fin 1024, acc (ix2 0 j) = k0_pay4 acc → k ≤ j := by
  obtain ⟨k₀, h₀⟩ := (pay4_spec acc).2
  rw [amOf_fold]
  obtain ⟨k, h1, h2, h3⟩ := fold_minsi_least _ (fun k : Fin 1 × Fin 1024 => acc (ix2 0 k.2) = k0_pay4 acc) (fun k => k.2.val)
    (fun _ => rfl) (fun k => by omega) (0, k₀) h₀
  exact ⟨k.2, h1, h2, fun j hj => h3 (0, j) hj⟩

/-! ### The loads' rows are inside the arrays -/

theorem toNat_small (n : ℕ) (h : n < 4294967296) : (BitVec.ofNat 32 n).toNat = n := by
  rw [BitVec.toNat_ofNat]; exact Nat.mod_eq_of_lt h

theorem chk1_of_lt (n : ℕ) (h : n < 20000) : k0_chk1 (BitVec.ofNat 32 n) := by
  have e := toNat_small n (by omega)
  unfold k0_chk1 k0_off1 k0_off2 k0_off4
  refine ⟨fun a => ?_, fun a => ?_, fun a => ?_⟩ <;> fin_cases a <;> simp [Scalar.indexCast, e] <;> omega

theorem chk3_of_lt (n : ℕ) (h : n < 1024) : k0_chk3 (BitVec.ofNat 32 n) := by
  have e := toNat_small n (by omega)
  unfold k0_chk3 k0_off6
  intro a; fin_cases a <;> simp [Scalar.indexCast, e] <;> omega

theorem rowsOk : RowsOk Ideal := fun _ rm _ => by
  obtain ⟨k, -, h, -⟩ := rrOf_spec rm
  rw [h]
  exact chk1_of_lt _ (by unfold rowNum; omega)

theorem laneOk : LaneOk Ideal := fun acc => by
  obtain ⟨k, -, h, -⟩ := amOf_spec acc
  rw [h]
  exact chk3_of_lt _ k.isLt

end Cert.Proof.KernelIdeal

end
-- ==== Proof.KFrame.lean ====
module

public import proofs.«01_k».proof.Proof.KRun
public import proofs.«01_k».proof.Proof.KIdeal
public import Idealize.ShloMosaic.Lib.StableHlo.RunRead

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

open Pipeline (Dat Cfg)

variable (m : (ℓ : Loc nD τ sig) → Buf (Elt F) ℓ) (hR : RowsOk F) (hL : LaneOk F)

/-- A buffer the first host operations do not write. -/
theorem V1_keep (c : Dev nD) (b : Ref sig .tc) (h0 : b ≠ main_v0) (h1 : b ≠ main_v1) :
    V1 m c (Proc.devRef .tc b) = m ((c.tc : Thread nD τ).loc b) := by
  unfold V1
  exact StableHlo.after_unwritten [main_v0, main_v1] rfl (by simp [h0, h1]) _

/-- A buffer neither the region's windows nor the host operations write ends as it began. -/
theorem VE_keep (c : Dev nD) (b : Ref sig .tc) (h0 : b ≠ main_v0) (h1 : b ≠ main_v1) (h3 : b ≠ main_v3)
    (hw : ∀ w, Pipeline.arrRef spec0 w ≠ b) : VE m hR hL c b = m ((c.tc : Thread nD τ).loc b) := by
  unfold VE Pipeline.afterTail₀
  show StableHlo.after hostOps1 _ _ = _
  rw [StableHlo.after_unwritten [main_v3] rfl (by simp [h3])]
  exact (Pipeline.withArrays_of_ne spec0 c (V1 m c) _ b hw).trans (V1_keep m c b h0 h1)

/-- The arguments end as they began. -/
theorem args_kept (r : PUnit × MemSt nD τ sig (Elt F)) (c : Dev nD)
    (h : (∀ w, r.2.mem (((cfgs (F := F) 0).spec w).arr.view.loc (c.tc : Thread nD τ)) = (dats m hR hL 0 c).arrAt w (cfgs (F := F) 0).N)
        ∧ ∀ b ∈ Pipeline.restRefs sig (cfgs (F := F) 0).spec, r.2.mem ((c.tc : Thread nD τ).loc b) = VE m hR hL c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · refine (h.1 (0 : Fin 5)).trans (((dats m hR hL 0 c).arrAt_in (0 : Fin 5) rfl _).trans ?_)
    exact V1_keep m c main_arg0 (by decide) (by decide)
  · exact (h.2 main_arg1 (show main_arg1 ∈ Pipeline.restRefs sig spec0 by decide)).trans (VE_keep m hR hL c _ (by decide) (by decide) (by decide) (by decide))
  · exact (h.2 main_arg2 (show main_arg2 ∈ Pipeline.restRefs sig spec0 by decide)).trans (VE_keep m hR hL c _ (by decide) (by decide) (by decide) (by decide))
  · exact (h.2 main_arg3 (show main_arg3 ∈ Pipeline.restRefs sig spec0 by decide)).trans (VE_keep m hR hL c _ (by decide) (by decide) (by decide) (by decide))

/-- The kernel runs, leaves its arguments as they were and every counter at zero. -/
theorem quiescent (m : (ℓ : Loc nD τ sig) → Buf (Elt Ideal) ℓ) (g : Dev nD → PrngReg) :
    θ_run defs (onTc (τ := τ) (main (F := Ideal))) ⟨m, fun _ => 0, g⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => args_kept m rowsOk laneOk r c (h.1 c), h.2⟩) (run_main m rowsOk laneOk g)

end Cert.Proof.KernelIdeal

end
-- ==== Proof.Picks.lean ====
module

public import Idealize.ShloMosaic.Lib.SortPrefix
public import Idealize.ShloMosaic.Lib.Pointwise
public import Idealize.ShloMosaic.PureOps.Ideal

@[expose] public section

noncomputable section

namespace Cert.Proof.Picks

open Idealize.ShloMosaic

/-- `p 0, …, p (k-1)` are the `k` largest of `s` on the numbers below `N`, largest first, equal ones in order of number:
    each is the largest among those not yet taken, and the first of the largest. -/
def IsPicks (N : ℕ) (s : ℕ → EReal) (k : ℕ) (p : ℕ → ℕ) : Prop :=
  ∀ j < k, p j < N ∧ (∀ l < j, p l ≠ p j) ∧ ∀ i < N, (∀ l < j, p l ≠ i) → s i < s (p j) ∨ (s i = s (p j) ∧ p j ≤ i)

theorem IsPicks.mono {N : ℕ} {s : ℕ → EReal} {k k' : ℕ} {p : ℕ → ℕ} (h : IsPicks N s k p) (hk : k' ≤ k) : IsPicks N s k' p :=
  fun j hj => h j (hj.trans_le hk)

theorem IsPicks.inj {N : ℕ} {s : ℕ → EReal} {k : ℕ} {p : ℕ → ℕ} (h : IsPicks N s k p) {i j : ℕ} (hi : i < k) (hj : j < k)
    (e : p i = p j) : i = j := by
  rcases Nat.lt_trichotomy i j with hlt | rfl | hlt
  · exact absurd e ((h j hj).2.1 i hlt)
  · rfl
  · exact absurd e.symm ((h i hi).2.1 j hlt)

/-- One more pick. -/
theorem IsPicks.snoc {N : ℕ} {s : ℕ → EReal} {k : ℕ} {p : ℕ → ℕ} (h : IsPicks N s k p) (q : ℕ) (hq : q < N) (hne : ∀ l < k, p l ≠ q)
    (hmax : ∀ i < N, (∀ l < k, p l ≠ i) → s i < s q ∨ (s i = s q ∧ q ≤ i)) :
    IsPicks N s (k + 1) (Function.update p k q) := by
  have hlt : ∀ l, l < k → Function.update p k q l = p l := fun l hl => Function.update_of_ne hl.ne _ _
  intro j hj
  rcases Nat.lt_succ_iff_lt_or_eq.1 hj with hj | rfl
  · obtain ⟨h1, h2, h3⟩ := h j hj
    rw [hlt j hj]
    refine ⟨h1, fun l hl => ?_, fun i hi hl => h3 i hi fun l hlj => ?_⟩
    · rw [hlt l (hl.trans hj)]; exact h2 l hl
    · rw [← hlt l (hlj.trans hj)]; exact hl l hlj
  · rw [Function.update_self]
    refine ⟨hq, fun l hl => ?_, fun i hi hl => hmax i hi fun l hlj => ?_⟩
    · rw [hlt l hl]; exact hne l hl
    · rw [← hlt l hlj]; exact hl l hlj

/-- Picks among nonnegative values that are zero from `M` on are picks among the first `M`, as long as these suffice. -/
theorem IsPicks.restrict {N M : ℕ} {s : ℕ → EReal} {k : ℕ} {p : ℕ → ℕ} (h : IsPicks N s k p) (hM : M ≤ N) (hk : k ≤ M)
    (h0 : ∀ i < N, 0 ≤ s i) (hz : ∀ i, M ≤ i → i < N → s i = 0) : IsPicks M s k p := by
  intro j hj
  obtain ⟨h1, h2, h3⟩ := h j hj
  refine ⟨?_, h2, fun i hi hl => h3 i (hi.trans_le hM) hl⟩
  by_contra hge
  have hpj := hz (p j) (not_lt.1 hge) h1
  obtain ⟨i, hi, hn⟩ : ∃ i < M, ∀ l < j, p l ≠ i := by
    by_contra hno
    push Not at hno
    have hsub : Finset.range M ⊆ (Finset.range j).image p := fun i hi => by
      obtain ⟨l, hl, e⟩ := hno i (Finset.mem_range.1 hi)
      exact Finset.mem_image.2 ⟨l, Finset.mem_range.2 hl, e⟩
    have e1 := Finset.card_le_card hsub
    have e2 := Finset.card_image_le (s := Finset.range j) (f := p)
    rw [Finset.card_range] at e1 e2
    omega
  have hi0 := h0 i (hi.trans_le hM)
  rcases h3 i (hi.trans_le hM) hn with h4 | ⟨-, h4⟩
  · rw [hpj] at h4; exact absurd h4 (not_lt.2 hi0)
  · omega

/-- Picks depend on the values below `N` only. -/
theorem IsPicks.congr {N : ℕ} {s s' : ℕ → EReal} {k : ℕ} {p : ℕ → ℕ} (h : IsPicks N s k p) (e : ∀ i < N, s i = s' i) : IsPicks N s' k p := by
  intro j hj
  obtain ⟨h1, h2, h3⟩ := h j hj
  refine ⟨h1, h2, fun i hi hl => ?_⟩
  rw [← e i hi, ← e _ h1]
  exact h3 i hi hl

/-! ### The sort by "greater" of a vector, and its first entries -/

variable {n : ℕ}

/-- Larger first, equal ones in order of position. -/
def before (x : Fin n → EReal) (k k' : Fin n) : Bool :=
  decide (x k' < x k) || (decide (x k = x k') && decide (k < k'))

theorem strict_before (x : Fin n → EReal) : StrictTotalBefore (before x) :=
  StrictTotalBefore.of_key_then_position (fun a b : EReal => decide (b < a)) x (by simp)
    (by simp only [decide_eq_true_eq]; exact fun _ _ _ h1 h2 => lt_trans h2 h1)
    (fun a b => by simp only [decide_eq_true_eq]; rcases lt_trichotomy a b with h | h | h <;> simp [h])

/-- On a list in order of position the stable sort by "greater" is the sort by "greater, then position". -/
theorem stableSort_eq (x : Fin n → EReal) (l : List (Fin n)) (hl : l.Pairwise (· < ·)) :
    stableSort (fun k k' => decide (x k' < x k)) l = stableSort (before x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.1 hb)
    unfold before
    simp [not_lt_of_gt hab]

theorem sortedFrom_eq (x : Fin n → EReal) (k : Fin n) :
    sortedFrom (fun k k' => decide (x k' < x k)) k = sortedFrom (before x) k := by
  have e : sortPositions n (fun k k' => decide (x k' < x k)) = sortPositions n (before x) :=
    stableSort_eq x (List.finRange n) (List.pairwise_lt_finRange n)
  unfold sortedFrom
  simp only [List.get_eq_getElem, e, Fin.val_cast]

/-- The first `k` positions of the sort are the picks. -/
theorem sortedFrom_picks (x : Fin n → EReal) (s : ℕ → EReal) (hs : ∀ i : Fin n, s i.val = x i) {k : ℕ} (hk : k ≤ n) {p : ℕ → ℕ}
    (h : IsPicks n s k p) (i : Fin k) : (sortedFrom (fun k k' => decide (x k' < x k)) (i.castLE hk)).val = p i.val := by
  rw [sortedFrom_eq]
  let σ : Fin k → Fin n := fun i => ⟨p i.val, (h i.val i.isLt).1⟩
  have hσ : ∀ i, x (σ i) = s (p i.val) := fun i => (hs (σ i)).symm
  have key : ∀ (i : Fin k) (q : Fin n), (∀ l : Fin k, l < i → σ l ≠ q) → before x q (σ i) = false := fun i q hq => by
    have := (h i.val i.isLt).2.2 q.val q.isLt fun l hl e => hq ⟨l, hl.trans i.isLt⟩ hl (Fin.ext e)
    rw [hs q, ← hσ i] at this
    unfold before
    rcases this with h1 | ⟨h1, h2⟩
    · simp [h1.ne, not_lt_of_gt h1]
    · simp only [h1, lt_irrefl, decide_false, decide_true, Bool.true_and, Bool.false_or, decide_eq_false_iff_not, not_lt]
      exact h2
  have e := StrictTotalBefore.sortedFrom_eq_of_prefix (strict_before x) hk σ
    (fun i j e => Fin.ext (h.inj i.isLt j.isLt (congrArg Fin.val e)))
    (fun i j hij => key i (σ j) fun l hl e => absurd (h.inj l.isLt j.isLt (congrArg Fin.val e)) (by
      have : l.val < i.val := hl; have : i.val < j.val := hij; omega))
    (fun i q hq => key i q fun l _ => hq l) i
  rw [e]

theorem gt_eq (a b : Ideal .f32) : (FloatOps.cmpfTotal (F := Ideal) (φ := .f32) .gt a b == 1#1) = decide (b < a) := by
  show (Ideal.cmpTotal .gt a b == 1#1) = _
  unfold Ideal.cmpTotal
  by_cases h : b < a <;> simp [Ideal.cmp, CmpDirection.ordered, h]

theorem along_eq (j : (⟨1, ![n]⟩ : Shape).Idx) (hd : 0 < (⟨1, ![n]⟩ : Shape).rank) (i : Fin n) :
    Shape.Idx.along (s := ⟨1, ![n]⟩) j ⟨0, hd⟩ i = ix1 i := by
  funext a; obtain rfl : a = ⟨0, hd⟩ := Subsingleton.elim (α := Fin 1) _ _
  exact Function.update_self ..

theorem along_val (j : (⟨1, ![n]⟩ : Shape).Idx) (hd : 0 < (⟨1, ![n]⟩ : Shape).rank) (i : Fin n) :
    (Shape.Idx.along (s := ⟨1, ![n]⟩) j ⟨0, hd⟩ i ⟨0, hd⟩).val = i.val := by
  rw [along_eq]; rfl

/-- The sort's permutation at a position named two ways. -/
theorem sortedFrom_at (B B' : Fin n → Fin n → Bool) (hB : B = B') (a b : Fin n) (h : a.val = b.val) : sortedFrom B a = sortedFrom B' b := by
  rw [hB, Fin.ext h]

/-- The indices and the values of a top-k, by the sorting permutation. -/
theorem topK_snd (k : ℕ) (hk : k ≤ n) (x : FVec Ideal ⟨1, ![n]⟩ .f32)
    (h : (⟨1, ![n]⟩ : Shape).Slices (fun _ => 0) ⟨1, ![k]⟩) (j : Fin k) :
    (Host.topK ⟨1, ![k]⟩ 0 (FloatOps.cmpfTotal (F := Ideal) (φ := .f32) .gt) x h).2 (ix1 j)
      = BitVec.ofNat 32 (sortedFrom (fun a b : Fin n => decide (x (ix1 b) < x (ix1 a))) (j.castLE hk)).val := by
  unfold Host.topK Host.sort2
  simp only [show (0 : ℕ) < (⟨1, ![n]⟩ : Shape).rank from Nat.one_pos, ↓reduceDIte, gt_eq]
  unfold extractStridedSlice iotaInDim
  refine congrArg (BitVec.ofNat 32) ((along_val _ _ _).trans (congrArg Fin.val (sortedFrom_at _ _ ?_ _ _ ?_)))
  · funext a b
    exact congrArg₂ (fun u v => decide (x u < x v)) (along_eq _ _ b) (along_eq _ _ a)
  · simp

theorem topK_fst (k : ℕ) (hk : k ≤ n) (x : FVec Ideal ⟨1, ![n]⟩ .f32)
    (h : (⟨1, ![n]⟩ : Shape).Slices (fun _ => 0) ⟨1, ![k]⟩) (j : Fin k) :
    (Host.topK ⟨1, ![k]⟩ 0 (FloatOps.cmpfTotal (F := Ideal) (φ := .f32) .gt) x h).1 (ix1 j)
      = x (ix1 (sortedFrom (fun a b : Fin n => decide (x (ix1 b) < x (ix1 a))) (j.castLE hk))) := by
  unfold Host.topK Host.sort2
  simp only [show (0 : ℕ) < (⟨1, ![n]⟩ : Shape).rank from Nat.one_pos, ↓reduceDIte, gt_eq]
  unfold extractStridedSlice
  refine congrArg x ((along_eq _ _ _).trans (congrArg ix1 (sortedFrom_at _ _ ?_ _ _ ?_)))
  · funext a b
    exact congrArg₂ (fun u v => decide (x u < x v)) (along_eq _ _ b) (along_eq _ _ a)
  · simp

/-- The indices of a top-k are the picks. -/
theorem topK_snd_picks (k : ℕ) (hk : k ≤ n) (x : FVec Ideal ⟨1, ![n]⟩ .f32) (s : ℕ → EReal) (hs : ∀ i : Fin n, s i.val = x (ix1 i))
    (h : (⟨1, ![n]⟩ : Shape).Slices (fun _ => 0) ⟨1, ![k]⟩) (p : ℕ → ℕ) (hp : IsPicks n s k p) (j : Fin k) :
    (Host.topK ⟨1, ![k]⟩ 0 (FloatOps.cmpfTotal (F := Ideal) (φ := .f32) .gt) x h).2 (ix1 j) = BitVec.ofNat 32 (p j.val) := by
  rw [topK_snd k hk x h j, sortedFrom_picks (fun i => x (ix1 i)) s hs hk hp j]

/-- The values of a top-k are the picks' values. -/
theorem topK_fst_picks (k : ℕ) (hk : k ≤ n) (x : FVec Ideal ⟨1, ![n]⟩ .f32) (s : ℕ → EReal) (hs : ∀ i : Fin n, s i.val = x (ix1 i))
    (h : (⟨1, ![n]⟩ : Shape).Slices (fun _ => 0) ⟨1, ![k]⟩) (p : ℕ → ℕ) (hp : IsPicks n s k p) (j : Fin k) :
    (Host.topK ⟨1, ![k]⟩ 0 (FloatOps.cmpfTotal (F := Ideal) (φ := .f32) .gt) x h).1 (ix1 j) = s (p j.val) := by
  rw [topK_fst k hk x h j, ← hs, sortedFrom_picks (fun i => x (ix1 i)) s hs hk hp j]

/-- Of `k` largest that are all positive, more than `m < k` numbers have a positive value: one is outside any `m` of them. -/
theorem exists_pos (k : ℕ) (hk : k ≤ n) (x : FVec Ideal ⟨1, ![n]⟩ .f32) (s : ℕ → EReal) (hs : ∀ i : Fin n, s i.val = x (ix1 i))
    (h : (⟨1, ![n]⟩ : Shape).Slices (fun _ => 0) ⟨1, ![k]⟩)
    (hpos : ∀ j : Fin k, (0 : EReal) < (Host.topK ⟨1, ![k]⟩ 0 (FloatOps.cmpfTotal (F := Ideal) (φ := .f32) .gt) x h).1 (ix1 j))
    (m : ℕ) (hm : m < k) (p : ℕ → ℕ) : ∃ i < n, 0 < s i ∧ ∀ l < m, p l ≠ i := by
  classical
  let q : Fin k → ℕ := fun j => (sortedFrom (fun a b : Fin n => decide (x (ix1 b) < x (ix1 a))) (j.castLE hk)).val
  have hq : Function.Injective q := fun a b e => by
    have := sortedFrom_injective _ (Fin.ext e)
    have e := congrArg Fin.val this
    exact Fin.ext (by simpa using e)
  by_contra hno
  push Not at hno
  have hsub : Finset.univ.image q ⊆ (Finset.range m).image p := fun i hi => by
    obtain ⟨j, -, rfl⟩ := Finset.mem_image.1 hi
    have h0 := hpos j
    rw [topK_fst k hk x h j, ← hs] at h0
    obtain ⟨l, hl, e⟩ := hno (q j) (Fin.isLt _) h0
    exact Finset.mem_image.2 ⟨l, Finset.mem_range.2 hl, e⟩
  have h1 := Finset.card_le_card hsub
  rw [Finset.card_image_of_injective _ hq, Finset.card_univ, Fintype.card_fin] at h1
  have h2 := Finset.card_image_le (s := Finset.range m) (f := p)
  rw [Finset.card_range] at h2
  omega

end Cert.Proof.Picks

end
-- ==== Proof.KTop.lean ====
module

public import proofs.«01_k».proof.Proof.KIdeal
public import proofs.«01_k».proof.Proof.Picks

@[expose] public section

set_option maxRecDepth 16384

noncomputable section

namespace Cert.Proof.KernelIdeal

open Cert.KernelIdeal Cert.KernelIdeal.Gen
open Idealize.ShloMosaic Idealize.ShloMosaic.TcCoe
open Cert.Proof.Picks

/-! ### One row of scores: the class picked, the row cleared there, the pick's record -/

theorem select_eq (p : BitVec 1) (a b : EReal) : Scalar.select p a b = if p = 1#1 then a else b := by
  unfold Scalar.select; by_cases h : p = 1#1 <;> simp_all

theorem cmpi_eq_one (a b : BitVec 32) : IntOp.cmpi .eq a b = 1#1 ↔ a = b := by
  unfold IntOp.cmpi
  by_cases h : a = b
  · simp [h]
  · simp [beq_false_of_ne h, h]

theorem ofNat_inj {a b : ℕ} (ha : a < 4294967296) (hb : b < 4294967296) : BitVec.ofNat 32 a = BitVec.ofNat 32 b ↔ a = b := by
  constructor
  · intro h
    have := congrArg BitVec.toNat h
    rwa [toNat_small a ha, toNat_small b hb] at this
  · rintro rfl; rfl

/-- The class number as a float. -/
def labF (c : ℕ) : EReal := (((BitVec.ofNat 32 c).toInt : ℝ) : EReal)

/-- The class picked in a row that attains `v`: the first class whose score is `v`. -/
theorem lab_spec (v840 : IVec S1x80 32) (h840 : ∀ c : Fin 80, v840 (ix2 0 c) = BitVec.ofNat 32 c.val) (v : Ideal .f32)
    (row : FVec Ideal S1x80 .f32) (c₁ : Fin 80) (h₁ : row (ix2 0 c₁) = v) :
    ∃ c₀ : Fin 80, row (ix2 0 c₀) = v ∧ (∀ c : Fin 80, row (ix2 0 c) = v → c₀.val ≤ c.val)
      ∧ (∀ c : Fin 80, k0_pay214 v840 v row (ix2 0 c) = if c = c₀ then 0 else row (ix2 0 c))
      ∧ ∀ (v841 : IVec S1x8 32) (anc : FVec Ideal S1x8 .f32), (∀ j : Fin 8, v841 (ix2 0 j) = BitVec.ofNat 32 j.val) →
        k0_pay213 v840 v841 v row anc (ix2 0 9) = labF c₀.val := by
  obtain ⟨⟨i, c₀⟩, h1, h2, h3⟩ := fold_minsi_least
    (fun x : Fin 1 × Fin 80 => if row (ix2 0 x.2) = v then v840 (ix2 0 x.2) else 1073741824#32) (fun x => row (ix2 0 x.2) = v)
    (fun x => x.2.val) (fun x => by simp only [h840]) (fun x => by omega) (0, c₁) h₁
  refine ⟨c₀, h1, fun c hc => h3 (0, c) hc, fun c => ?_, fun v841 anc h841 => ?_⟩
  · pointwise [k0_pay214]
    rw [h2, h840, select_eq]
    simp only [cmpi_eq_one, ofNat_inj (show c.val < 4294967296 by omega) (show c₀.val < 4294967296 by omega), Fin.ext_iff]
  · pointwise [k0_pay213]
    rw [h2, h841, select_eq, select_eq]
    rfl

theorem pay213_anc (v840 : IVec S1x80 32) (v841 : IVec S1x8 32) (v : Ideal .f32) (row : FVec Ideal S1x80 .f32)
    (anc : FVec Ideal S1x8 .f32) (j : Fin 8) :
    k0_pay213 v840 v841 v row anc (ix2 0 ⟨j.val, by omega⟩) = anc (ix2 0 j) := by
  pointwise [k0_pay213]

theorem pay213_score (v840 : IVec S1x80 32) (v841 : IVec S1x8 32) (v : Ideal .f32) (row : FVec Ideal S1x80 .f32)
    (anc : FVec Ideal S1x8 .f32) (h841 : ∀ j : Fin 8, v841 (ix2 0 j) = BitVec.ofNat 32 j.val) :
    k0_pay213 v840 v841 v row anc (ix2 0 8) = v := by
  pointwise [k0_pay213]
  rw [h841, select_eq]
  exact if_pos rfl

/-- The rows' maxima after a pick: the picked row's replaced by its largest score left. -/
theorem pay8_apply (rm : FVec Ideal S40x500 .f32) (k : Fin 40 × Fin 500) (rr : BitVec 32) (hrr : rr = BitVec.ofNat 32 (rowNum k))
    (row : FVec Ideal S1x80 .f32) (j : Fin 40 × Fin 500) :
    k0_pay8 k0_pay165 rm rr row (ix2 j.1 j.2)
      = if rowNum j = rowNum k then (Finset.univ : Finset (Fin 1 × Fin 80)).fold max ⊥ (fun x => row (ix2 0 x.2)) else rm (ix2 j.1 j.2) := by
  subst hrr
  pointwise [k0_pay8]
  rw [pay165_apply, select_eq, negInf]
  simp only [cmpi_eq_one, ofNat_inj (show rowNum j < 4294967296 by unfold rowNum; omega) (show rowNum k < 4294967296 by unfold rowNum; omega)]

/-! ### The loop's test -/

theorem zero_bits : Ideal.ofBits .f32 0x00000000#32 = 0 := by simp [Ideal.ofBits, Ideal.ieee]

theorem wcond_iff (n : ℕ) (hn : n < 1000) (v : Ideal .f32) : wcond n v ↔ (0 : EReal) < v := by
  unfold wcond
  have h1 : Scalar.cmpi .slt (BitVec.ofNat 32 n) 1000#32 = 1#1 := by
    have : ∀ m : Fin 1000, Scalar.cmpi .slt (BitVec.ofNat 32 m.val) 1000#32 = 1#1 := by decide +kernel
    exact this ⟨n, hn⟩
  rw [h1]
  show Scalar.andi 1#1 (Ideal.cmp .ogt v (Ideal.ofBits .f32 0x00000000#32)) = 1#1 ↔ _
  rw [zero_bits]
  unfold Ideal.cmp
  by_cases h : (0 : EReal) < v <;> simp [h, Scalar.andi, IntOp.andi]

/-! ### Arrays by row and column -/

/-- The scores left, the picks' scratch and the packed anchors, by row and column. -/
def sc (s5 : C5 Ideal) (r : Fin 20000) (c : Fin 80) : EReal := (s5 : S20000x80.Idx → EReal) (ix2 r c)
def pk (s7 : C7 Ideal) (i : Fin 1024) (j : Fin 16) : EReal := (s7 : S1024x16.Idx → EReal) (ix2 i j)
def an (f1 : C1 Ideal) (r : ℕ) (j : Fin 8) : EReal := if h : r < 20000 then (f1 : S20000x8.Idx → EReal) (ix2 ⟨r, h⟩ j) else 0

theorem rowAt_apply (s5 : C5 Ideal) (rr : BitVec 32) (h : k0_chk1 rr) (R : Fin 20000) (hR : rr.toNat = R.val) (c : Fin 80) :
    rowAt s5 rr h (ix2 0 c) = sc s5 R c := by
  unfold rowAt sc
  refine congrArg (s5 : S20000x80.Idx → EReal) (funext fun a => Fin.ext ?_)
  fin_cases a
  · show k0_off1 rr 0 + 1 * 0 = R.val
    simp [k0_off1, Scalar.indexCast, hR]
  · show k0_off1 rr 1 + 1 * c.val = c.val
    simp [k0_off1]

theorem ancAt_apply (f1 : C1 Ideal) (rr : BitVec 32) (h : k0_chk1 rr) (R : Fin 20000) (hR : rr.toNat = R.val) (j : Fin 8) :
    ancAt f1 rr h (ix2 0 j) = an f1 R.val j := by
  unfold ancAt an
  rw [dif_pos R.isLt]
  refine congrArg (f1 : S20000x8.Idx → EReal) (funext fun a => Fin.ext ?_)
  fin_cases a
  · show k0_off2 rr 0 + 1 * 0 = R.val
    simp [k0_off2, Scalar.indexCast, hR]
  · show k0_off2 rr 1 + 1 * j.val = j.val
    simp [k0_off2]

theorem sc_write (s5 : C5 Ideal) (rr : BitVec 32) (h : k0_chk1 rr) (R : Fin 20000) (hR : rr.toNat = R.val) (w : Vec Ideal S1x80 .f32)
    (r : Fin 20000) (c : Fin 80) :
    sc (M5.view.writes (Elt Ideal) s5 [⟨Rect.unit (s := S20000x80) (k0_off4 rr) S1x80.size (k0_off4_inb _ h), w⟩]) r c
      = if r = R then w (ix2 0 c) else sc s5 r c := by
  have e0 : k0_off4 rr 0 = R.val := by simp [k0_off4, Scalar.indexCast, hR]
  have e1 : k0_off4 rr 1 = 0 := by simp [k0_off4]
  by_cases hr : r = R
  · rw [if_pos hr]; subst hr
    refine whole_hit (b := cc0_scratch0) s5 (Rect.unit (s := S20000x80) (k0_off4 rr) S1x80.size (k0_off4_inb _ h)) w
      (ix2 (n0 := 1) (n1 := 80) 0 c) (ix2 r c) fun a => ?_
    fin_cases a
    · show r.val = k0_off4 rr 0 + 1 * 0; omega
    · show c.val = k0_off4 rr 1 + 1 * c.val; omega
  · rw [if_neg hr]
    have hne : r.val ≠ R.val := fun e => hr (Fin.ext e)
    refine whole_miss (b := cc0_scratch0) s5 (Rect.unit (s := S20000x80) (k0_off4 rr) S1x80.size (k0_off4_inb _ h)) w (ix2 r c) 0 rfl ?_
    show r.val < k0_off4 rr 0 ∨ k0_off4 rr 0 + 1 ≤ r.val
    omega

theorem pk_write (s7 : C7 Ideal) (n : Fin 1000) (h : k0_chk2 (BitVec.ofNat 32 n.val)) (w : Vec Ideal S1x16 .f32) (i : Fin 1024) (j : Fin 16) :
    pk (M7.view.writes (Elt Ideal) s7 [⟨Rect.unit (s := S1024x16) (k0_off3 (BitVec.ofNat 32 n.val)) S1x16.size (k0_off3_inb _ h), w⟩]) i j
      = if i.val = n.val then w (ix2 0 j) else pk s7 i j := by
  have e0 : k0_off3 (BitVec.ofNat 32 n.val) 0 = n.val := by
    have := toNat_small n.val (by omega)
    simp only [BitVec.toNat_ofNat] at this
    simp [k0_off3, Scalar.indexCast, this]
  have e1 : k0_off3 (BitVec.ofNat 32 n.val) 1 = 0 := by simp [k0_off3]
  by_cases hr : i.val = n.val
  · rw [if_pos hr]
    refine whole_hit (b := cc0_scratch2) s7 (Rect.unit (s := S1024x16) (k0_off3 (BitVec.ofNat 32 n.val)) S1x16.size (k0_off3_inb _ h)) w
      (ix2 (n0 := 1) (n1 := 16) 0 j) (ix2 i j) fun a => ?_
    fin_cases a
    · show i.val = k0_off3 (BitVec.ofNat 32 n.val) 0 + 1 * 0; omega
    · show j.val = k0_off3 (BitVec.ofNat 32 n.val) 1 + 1 * j.val; omega
  · rw [if_neg hr]
    refine whole_miss (b := cc0_scratch2) s7 (Rect.unit (s := S1024x16) (k0_off3 (BitVec.ofNat 32 n.val)) S1x16.size (k0_off3_inb _ h)) w (ix2 i j) 0 rfl ?_
    show i.val < k0_off3 (BitVec.ofNat 32 n.val) 0 ∨ k0_off3 (BitVec.ofNat 32 n.val) 0 + 1 ≤ i.val
    omega

/-! ### The loop's invariant -/

/-- Scores by flat number, 80 classes a row. -/
def flat (S : ℕ → ℕ → EReal) (i : ℕ) : EReal := S (i / 80) (i % 80)

/-- The row of an entry of the 40 × 500 arrangement. -/
def rowFin (k : Fin 40 × Fin 500) : Fin 20000 := ⟨rowNum k, by unfold rowNum; omega⟩

/-- After `n` picks `p`: the picked scores are cleared and the others stand; the rows' maxima are those of the scores left;
    the picks are the largest in order; the first `n` records are the picks' anchors, scores and classes. -/
structure Inv (S : ℕ → ℕ → EReal) (f1 : C1 Ideal) (n : ℕ) (p : ℕ → ℕ) (σ : WSt Ideal) : Prop where
  num : σ.n = n
  v : σ.v = k0_pay168 σ.rm
  s5 : ∀ (r : Fin 20000) (c : Fin 80), ((∃ l < n, p l = 80 * r.val + c.val) → sc σ.s5 r c = 0)
    ∧ ((∀ l < n, p l ≠ 80 * r.val + c.val) → sc σ.s5 r c = S r.val c.val)
  le : ∀ (k : Fin 40 × Fin 500) (c : Fin 80), sc σ.s5 (rowFin k) c ≤ σ.rm (ix2 k.1 k.2)
  att : ∀ k : Fin 40 × Fin 500, ∃ c : Fin 80, sc σ.s5 (rowFin k) c = σ.rm (ix2 k.1 k.2)
  picks : IsPicks 1600000 (flat S) n p
  anc : ∀ i : Fin 1024, i.val < n → ∀ j : Fin 8, pk σ.s7 i ⟨j.val, by omega⟩ = an f1 (p i.val / 80) j
  score : ∀ i : Fin 1024, i.val < n → pk σ.s7 i 8 = flat S (p i.val)
  lab : ∀ i : Fin 1024, i.val < n → pk σ.s7 i 9 = labF (p i.val % 80)
  rest : ∀ i : Fin 1024, n ≤ i.val → ∀ j : Fin 16, pk σ.s7 i j = pk (picks0 Ideal) i j

variable {S : ℕ → ℕ → EReal} {f1 : C1 Ideal} {n : ℕ} {p : ℕ → ℕ} {σ : WSt Ideal}

/-- A score left, wherever it is, is at most the largest. -/
theorem Inv.sc_le (h : Inv S f1 n p σ) (r : Fin 20000) (c : Fin 80) : ∃ k : Fin 40 × Fin 500, rowFin k = r
    ∧ sc σ.s5 r c ≤ σ.rm (ix2 k.1 k.2) ∧ σ.rm (ix2 k.1 k.2) ≤ σ.v := by
  let k : Fin 40 × Fin 500 := (⟨r.val / 500, by omega⟩, ⟨r.val % 500, by omega⟩)
  have hk : rowFin k = r := Fin.ext (show 500 * (r.val / 500) + r.val % 500 = r.val by omega)
  refine ⟨k, hk, ?_, ?_⟩
  · rw [← hk]; exact h.le k c
  · rw [h.v]; exact (pay168_spec σ.rm).1 k

theorem Inv.step (h : Inv S f1 n p σ) (hn : n < 1000) (hv : (0 : EReal) < σ.v) (v840 : IVec S1x80 32) (v841 : IVec S1x8 32)
    (h840 : ∀ c : Fin 80, v840 (ix2 0 c) = BitVec.ofNat 32 c.val) (h841 : ∀ j : Fin 8, v841 (ix2 0 j) = BitVec.ofNat 32 j.val) :
    ∃ q, Inv S f1 (n + 1) (Function.update p n q) (wstep v840 v841 f1 σ) := by
  obtain ⟨k, hk, hrr, hmin⟩ := rrOf_spec σ.rm
  rw [← h.v] at hk hrr hmin
  have hkn : rowNum k < 20000 := (rowFin k).isLt
  have hnat : (rrOf σ.v σ.rm).toNat = (rowFin k).val := by rw [hrr]; exact toNat_small _ (by omega)
  have hc1 : k0_chk1 (rrOf σ.v σ.rm) := by rw [hrr]; exact chk1_of_lt _ hkn
  have hc2 : k0_chk2 (BitVec.ofNat 32 σ.n) := by rw [h.num]; exact chk2_of_lt ⟨n, hn⟩
  obtain ⟨c₁, hc₁⟩ := h.att k
  obtain ⟨c₀, g1, g2, g3, g4⟩ := lab_spec v840 h840 σ.v (rowAt σ.s5 (rrOf σ.v σ.rm) hc1) c₁
    (by rw [rowAt_apply _ _ _ _ hnat, hc₁, hk])
  have g4 := g4 v841 (ancAt f1 (rrOf σ.v σ.rm) hc1) h841
  simp only [rowAt_apply _ _ _ _ hnat] at g1 g2 g3
  have hun : ∀ l < n, p l ≠ 80 * (rowFin k).val + c₀.val := fun l hl e => by
    have := (h.s5 (rowFin k) c₀).1 ⟨l, hl, e⟩
    rw [g1] at this; rw [this] at hv; exact lt_irrefl _ hv
  have hS : S (rowFin k).val c₀.val = σ.v := by rw [← (h.s5 (rowFin k) c₀).2 hun, g1]
  refine ⟨80 * (rowFin k).val + c₀.val, ?_⟩
  have hd : (80 * (rowFin k).val + c₀.val) / 80 = (rowFin k).val := by omega
  have hm : (80 * (rowFin k).val + c₀.val) % 80 = c₀.val := by omega
  have hq : flat S (80 * (rowFin k).val + c₀.val) = σ.v := by unfold flat; rw [hd, hm, hS]
  have hlt : ∀ l, l < n → Function.update p n (80 * (rowFin k).val + c₀.val) l = p l := fun l hl => Function.update_of_ne hl.ne _ _
  have hst := show wstep v840 v841 f1 σ = _ from dif_pos ⟨hc1, hc2⟩
  rw [hst]
  have hs5 : ∀ r c, sc (M5.view.writes (Elt Ideal) σ.s5 [⟨Rect.unit (s := S20000x80) (k0_off4 (rrOf σ.v σ.rm)) S1x80.size (k0_off4_inb _ hc1),
        k0_pay215 v840 σ.v (rowAt σ.s5 (rrOf σ.v σ.rm) hc1)⟩]) r c = if r = rowFin k then (if c = c₀ then 0 else sc σ.s5 (rowFin k) c) else sc σ.s5 r c := by
    intro r c
    rw [sc_write σ.s5 _ hc1 (rowFin k) hnat, ← g3 c]
    have e : k0_pay215 v840 σ.v (rowAt σ.s5 (rrOf σ.v σ.rm) hc1) (ix2 0 c) = k0_pay214 v840 σ.v (rowAt σ.s5 (rrOf σ.v σ.rm) hc1) (ix2 0 c) := by
      pointwise [k0_pay215]
    rw [e]
  have hrm : ∀ j : Fin 40 × Fin 500, k0_pay8 k0_pay165 σ.rm (rrOf σ.v σ.rm) (k0_pay214 v840 σ.v (rowAt σ.s5 (rrOf σ.v σ.rm) hc1)) (ix2 j.1 j.2)
      = if rowNum j = rowNum k then (Finset.univ : Finset (Fin 1 × Fin 80)).fold max ⊥ (fun x => if x.2 = c₀ then 0 else sc σ.s5 (rowFin k) x.2)
        else σ.rm (ix2 j.1 j.2) := by
    intro j
    rw [pay8_apply σ.rm k _ hrr]
    simp only [← g3]
  have hfold := fold_max_spec (fun x : Fin 1 × Fin 80 => if x.2 = c₀ then (0 : EReal) else sc σ.s5 (rowFin k) x.2)
  have hs7 := pk_write σ.s7 ⟨n, hn⟩ (chk2_of_lt ⟨n, hn⟩)
  have hs7' : ∀ (w : Vec Ideal S1x16 .f32) (i : Fin 1024) (j : Fin 16),
      pk (M7.view.writes (Elt Ideal) σ.s7 [⟨Rect.unit (s := S1024x16) (k0_off3 (BitVec.ofNat 32 σ.n)) S1x16.size (k0_off3_inb _ hc2), w⟩]) i j
        = if i.val = n then w (ix2 0 j) else pk σ.s7 i j := by
    have : ∀ m (e : m = n) (h' : k0_chk2 (BitVec.ofNat 32 m)), ∀ (w : Vec Ideal S1x16 .f32) (i : Fin 1024) (j : Fin 16),
      pk (M7.view.writes (Elt Ideal) σ.s7 [⟨Rect.unit (s := S1024x16) (k0_off3 (BitVec.ofNat 32 m)) S1x16.size (k0_off3_inb _ h'), w⟩]) i j
        = if i.val = n then w (ix2 0 j) else pk σ.s7 i j := by rintro _ rfl h'; exact hs7
    exact this _ h.num hc2
  have hrow : ∀ j, rowNum j = rowNum k → rowFin j = rowFin k := fun j e => Fin.ext e
  refine ⟨congrArg (· + 1) h.num, ?_, fun r c => ⟨?_, ?_⟩, fun j c => ?_, fun j => ?_, h.picks.snoc _ (by omega) hun ?_, ?_, ?_, ?_, ?_⟩
  · dsimp only; rw [pay9_eq]
  · rintro ⟨l, hl, e⟩
    rw [hs5]
    by_cases hln : l < n
    · rw [hlt l hln] at e
      have h0 := (h.s5 r c).1 ⟨l, hln, e⟩
      by_cases hr : r = rowFin k
      · rw [if_pos hr, ← hr, h0, ite_self]
      · rw [if_neg hr, h0]
    · obtain rfl : l = n := by omega
      rw [Function.update_self] at e
      rw [if_pos (Fin.ext (by omega)), if_pos (Fin.ext (by omega))]
  · intro hl
    rw [hs5, ← (h.s5 r c).2 fun l hln => by rw [← hlt l hln]; exact hl l (by omega)]
    have := hl n (by omega)
    rw [Function.update_self] at this
    by_cases hr : r = rowFin k
    · rw [if_pos hr, if_neg (fun e => this (by rw [hr, e])), hr]
    · rw [if_neg hr]
  · dsimp only
    rw [hs5, hrm]
    by_cases e : rowNum j = rowNum k
    · rw [if_pos e, if_pos (hrow j e)]
      exact hfold.1 (0, c)
    · rw [if_neg e, if_neg (fun e' => e (congrArg Fin.val e'))]
      exact h.le j c
  · dsimp only
    rw [hrm]
    simp only [hs5]
    by_cases e : rowNum j = rowNum k
    · simp only [if_pos e, if_pos (hrow j e)]
      obtain ⟨⟨_, c⟩, hc⟩ := hfold.2
      exact ⟨c, hc⟩
    · have e' : ¬ rowFin j = rowFin k := fun e' => e (congrArg Fin.val e')
      simp only [if_neg e, if_neg e']
      exact h.att j
  · intro i hi hl
    rw [hq]
    let r : Fin 20000 := ⟨i / 80, by omega⟩
    let c : Fin 80 := ⟨i % 80, by omega⟩
    have hi' : 80 * r.val + c.val = i := show 80 * (i / 80) + i % 80 = i by omega
    have hsc : sc σ.s5 r c = flat S i := (h.s5 r c).2 fun l hln => by rw [hi']; exact hl l hln
    obtain ⟨j, hj, h1, h2⟩ := h.sc_le r c
    rw [← hsc]
    rcases (h1.trans h2).lt_or_eq with hlt' | heq
    · exact .inl hlt'
    · refine .inr ⟨heq, ?_⟩
      have h3 := hmin j (le_antisymm h2 (heq ▸ h1))
      have hjr : rowNum j = r.val := congrArg Fin.val hj
      have hkr : (rowFin k).val = rowNum k := rfl
      rcases h3.lt_or_eq with h4 | h4
      · omega
      · have h5 := g2 c (by rw [← hrow j h4.symm, hj, heq])
        omega
  · intro i hi j
    dsimp only
    rw [hs7']
    by_cases e : i.val = n
    · rw [if_pos e, pay213_anc, ancAt_apply _ _ _ _ hnat, e, Function.update_self, hd]
    · rw [if_neg e, hlt _ (by omega)]; exact h.anc i (by omega) j
  · intro i hi
    dsimp only
    rw [hs7']
    by_cases e : i.val = n
    · rw [if_pos e, pay213_score _ _ _ _ _ h841, e, Function.update_self, hq]
    · rw [if_neg e, hlt _ (by omega)]; exact h.score i (by omega)
  · intro i hi
    dsimp only
    rw [hs7']
    by_cases e : i.val = n
    · rw [if_pos e, g4, e, Function.update_self, hm]
    · rw [if_neg e, hlt _ (by omega)]; exact h.lab i (by omega)
  · intro i hi j
    dsimp only
    rw [hs7', if_neg (by omega)]
    exact h.rest i (by omega) j

/-- A positive score outside the picks: the largest score left is positive. -/
theorem Inv.pos (h : Inv S f1 n p σ) (i : ℕ) (hi : i < 1600000) (h0 : 0 < flat S i) (hl : ∀ l < n, p l ≠ i) : (0 : EReal) < σ.v := by
  let r : Fin 20000 := ⟨i / 80, by omega⟩
  let c : Fin 80 := ⟨i % 80, by omega⟩
  have hi' : 80 * r.val + c.val = i := show 80 * (i / 80) + i % 80 = i by omega
  have hsc : sc σ.s5 r c = flat S i := (h.s5 r c).2 fun l hln => by rw [hi']; exact hl l hln
  obtain ⟨j, hj, h1, h2⟩ := h.sc_le r c
  exact h0.trans_le (hsc ▸ h1.trans h2)

/-- The loop, when a positive score is left at every trip: it makes all the picks. -/
theorem Inv.run (v840 : IVec S1x80 32) (v841 : IVec S1x8 32)
    (h840 : ∀ c : Fin 80, v840 (ix2 0 c) = BitVec.ofNat 32 c.val) (h841 : ∀ j : Fin 8, v841 (ix2 0 j) = BitVec.ofNat 32 j.val)
    (hex : ∀ n < 1000, ∀ p : ℕ → ℕ, ∃ i < 1600000, 0 < flat S i ∧ ∀ l < n, p l ≠ i) :
    ∀ (k n : ℕ) (p : ℕ → ℕ) (σ : WSt Ideal), n + k = 1000 → Inv S f1 n p σ → ∃ p', Inv S f1 1000 p' (wrun v840 v841 f1 k σ) := by
  intro k
  induction k with
  | zero =>
    intro n p σ hn h
    obtain rfl : n = 1000 := by omega
    exact ⟨p, h⟩
  | succ k ih =>
    intro n p σ hn h
    obtain ⟨i, hi, h0, hl⟩ := hex n (by omega) p
    have hv := h.pos i hi h0 hl
    obtain ⟨q, hq⟩ := h.step (by omega) hv v840 v841 h840 h841
    rw [wrun, if_pos ((wcond_iff σ.n (by rw [h.num]; omega) σ.v).2 hv)]
    exact ih (n + 1) _ _ (by omega) hq

end Cert.Proof.KernelIdeal

end
-- ==== Proof.BoxFns.lean ====
/-
  The arithmetic both programs do on a score and on a candidate box, one number at a time: the score, the decoded box, its class-shifted copy and the
  overlap of two boxes.
-/
module

public import Idealize.ShloMosaic.Lib.Pointwise
public import Idealize.ShloMosaic.PureOps.Ideal

@[expose] public section

noncomputable section

namespace Cert.Proof.Boxes

open Idealize.ShloMosaic

/-- A score from a class logit and a overlap logit. -/
def scoreV (a b : EReal) : EReal :=
  if Ideal.ofBits .f32 0x3D4CCCCD#32 < Ideal.sqrt (Ideal.logistic a * Ideal.logistic b) then
    Ideal.sqrt (Ideal.logistic a * Ideal.logistic b)
  else 0

/-- The decoded centre of one axis: shift `d`, anchor from `a` to `b`. -/
def mid (d a b : EReal) : EReal :=
  Ideal.div d (Ideal.ofBits .f32 0x41200000#32) * (b - a) + (a + Ideal.ofBits .f32 0x3F000000#32 * (b - a))

/-- Half the decoded length of one axis: log-scale `e`, anchor from `a` to `b`. -/
def half (e a b : EReal) : EReal :=
  Ideal.ofBits .f32 0x3F000000#32
    * (Ideal.exp (min (Ideal.div e (Ideal.ofBits .f32 0x40A00000#32)) (Ideal.ofBits .f32 0x40845349#32)) * (b - a))

/-- The decoded box of four deltas `d` and an anchor `a`. -/
def box (d a : Fin 4 → EReal) (k : Fin 4) : EReal :=
  match k with
  | 0 => mid (d 0) (a 0) (a 2) - half (d 2) (a 0) (a 2)
  | 1 => mid (d 1) (a 1) (a 3) - half (d 3) (a 1) (a 3)
  | 2 => mid (d 0) (a 0) (a 2) + half (d 2) (a 0) (a 2)
  | 3 => mid (d 1) (a 1) (a 3) + half (d 3) (a 1) (a 3)

/-- The box moved by its class, so that boxes of different classes are apart. -/
def moved (d a : Fin 4 → EReal) (lab : EReal) (k : Fin 4) : EReal := box d a k + lab * Ideal.ofBits .f32 0x461C4000#32

def area (x : Fin 4 → EReal) : EReal := (x 2 - x 0) * (x 3 - x 1)

/-- The area two boxes share. -/
def inter (x y : Fin 4 → EReal) : EReal :=
  max (min (x 2) (y 2) - max (x 0) (y 0)) 0 * max (min (x 3) (y 3) - max (x 1) (y 1)) 0

/-- The overlap of two boxes. -/
def iou (x y : Fin 4 → EReal) : EReal :=
  Ideal.div (inter x y) (area x + area y - inter x y + Ideal.ofBits .f32 0x33D6BF95#32)

/-- Whether candidate `j` is still kept after the first `i` candidates have suppressed: each kept one drops the later ones
    whose overlap with it exceeds 0.6. -/
def kept (O : ℕ → ℕ → EReal) : ℕ → ℕ → Prop
  | 0, _ => True
  | i + 1, j => kept O i j ∧ ¬ (Ideal.ofBits .f32 0x3F19999A#32 < O i j ∧ i < j ∧ kept O i i)

theorem kept_congr (O O' : ℕ → ℕ → EReal) (n : ℕ) (h : ∀ i < n, ∀ j < n, O i j = O' i j) :
    ∀ i ≤ n, ∀ j < n, kept O i j ↔ kept O' i j
  | 0, _, _, _ => Iff.rfl
  | i + 1, hi, j, hj => by
    unfold kept
    rw [kept_congr O O' n h i (by omega) j hj, kept_congr O O' n h i (by omega) i (by omega), h i (by omega) j hj]

/-- A class number as a float. -/
def lab (c : ℕ) : EReal := (((BitVec.ofNat 32 c).toInt : ℝ) : EReal)

section Final

variable (s : ℕ → EReal) (D A : ℕ → Fin 4 → EReal) (p : ℕ → ℕ)

/-- The `i`-th candidate's moved box, for candidates `p` by flat number (80 classes a row), deltas `D` and anchors `A` by row. -/
def cand (i : ℕ) : Fin 4 → EReal := moved (D (p i / 80)) (A (p i / 80)) (lab (p i % 80))

open scoped Classical in
/-- The `j`-th candidate's score after suppression. -/
def final (j : ℕ) : EReal := if kept (fun i j => iou (cand D A p i) (cand D A p j)) 1000 j then s (p j) else 0

end Final

end Cert.Proof.Boxes

end
-- ==== Proof.KScore.lean ====
module

public import proofs.«01_k».proof.Proof.KTop
public import proofs.«01_k».proof.Proof.KRunBody
public import proofs.«01_k».proof.Proof.BoxFns

@[expose] public section

set_option maxRecDepth 16384

noncomputable section

namespace Cert.Proof.KernelIdeal

open Cert.KernelIdeal Cert.KernelIdeal.Gen
open Idealize.ShloMosaic Idealize.ShloMosaic.TcCoe
open Cert.Proof.Boxes Cert.Proof.Picks

/-! ### The scores, forty blocks of 500 rows -/

/-- The class logits by row and class, and the centredness logits by row. -/
def cls (f0 : C0 Ideal) (r c : ℕ) : EReal :=
  if h : r < 20000 ∧ c < 80 then (f0 : S20000x80.Idx → EReal) (ix2 ⟨r, h.1⟩ ⟨c, h.2⟩) else 0
def ctr (f2 : C2 Ideal) (r : ℕ) : EReal :=
  if h : r < 20000 then (f2 : S40x500.Idx → EReal) (ix2 ⟨r / 500, by omega⟩ ⟨r % 500, by omega⟩) else 0

/-- The scores by row and class. -/
def kS (f0 : C0 Ideal) (f2 : C2 Ideal) (r c : ℕ) : EReal := scoreV (cls f0 r c) (ctr f2 r)

/-- One block's rows of the inputs. -/
def ctrAt (f2 : C2 Ideal) (k : ℕ) (h : ∀ a, (![k, 0] : Fin 2 → ℕ) a + S1x500.size a ≤ S40x500.size a) : Vec Ideal S1x500 .f32 :=
  View.readAt (Elt Ideal) M2.view (Rect.unit (s := S40x500) ![k, 0] S1x500.size h).toLoadRect f2
def blkAt (f0 : C0 Ideal) (o : ℕ) (h : ∀ a, (![o, 0] : Fin 2 → ℕ) a + S500x80.size a ≤ S20000x80.size a) : Vec Ideal S500x80 .f32 :=
  View.readAt (Elt Ideal) M0.view (Rect.unit (s := S20000x80) ![o, 0] S500x80.size h).toLoadRect f0

theorem ctrAt_apply (f2 : C2 Ideal) (k : ℕ) (hk : k < 40) (h) (i : Fin 500) : ctrAt f2 k h (ix2 0 i) = ctr f2 (500 * k + i.val) := by
  unfold ctrAt ctr
  rw [dif_pos (by omega)]
  refine congrArg (f2 : S40x500.Idx → EReal) (funext fun a => Fin.ext ?_)
  fin_cases a
  · show k + 1 * 0 = (500 * k + i.val) / 500; omega
  · show 0 + 1 * i.val = (500 * k + i.val) % 500; omega

theorem blkAt_apply (f0 : C0 Ideal) (k : ℕ) (hk : k < 40) (o : ℕ) (ho : o = 500 * k) (h) (i : Fin 500) (c : Fin 80) :
    blkAt f0 o h (ix2 i c) = cls f0 (500 * k + i.val) c.val := by
  unfold blkAt cls
  rw [dif_pos ⟨by omega, c.isLt⟩]
  refine congrArg (f0 : S20000x80.Idx → EReal) (funext fun a => Fin.ext ?_)
  fin_cases a
  · show o + 1 * i.val = 500 * k + i.val; omega
  · show 0 + 1 * c.val = c.val; omega

theorem pay163_apply (v : Vec Ideal S1x500 .f32) (u : Vec Ideal S500x80 .f32) (i : Fin 500) (c : Fin 80) :
    k0_pay163 v u (ix2 i c) = scoreV (u (ix2 i c)) (v (ix2 0 i)) := by
  pointwise [k0_pay163, k0_pay162]
  rfl

theorem pay164_apply (v : Vec Ideal S1x500 .f32) (u : Vec Ideal S500x80 .f32) (i : Fin 500) :
    k0_pay164 v u (ix2 0 i) = (Finset.univ : Finset (Fin 80)).fold max ⊥ fun c => scoreV (u (ix2 i c)) (v (ix2 0 i)) := by
  pointwise [k0_pay164, k0_pay162]
  rw [negInf]
  rfl

/-- What the forty blocks leave in the scores and in the rows' maxima. -/
def G5 (f0 : C0 Ideal) (f2 : C2 Ideal) (y : S20000x80.Idx) : Elt Ideal .f32 := kS f0 f2 (y 0).val (y 1).val
def G6 (f0 : C0 Ideal) (f2 : C2 Ideal) (y : S40x500.Idx) : Elt Ideal .f32 :=
  (Finset.univ : Finset (Fin 80)).fold max ⊥ fun c => kS f0 f2 (500 * (y 0).val + (y 1).val) c.val

def Ok5 (f0 : C0 Ideal) (f2 : C2 Ideal) (L : List (View.Piece (Elt Ideal) S20000x80 .f32)) : Prop :=
  ∀ p ∈ L, ∀ x : p.1.shape.Idx, p.2 x = G5 f0 f2 (p.1.emb x)
def Ok6 (f0 : C0 Ideal) (f2 : C2 Ideal) (L : List (View.Piece (Elt Ideal) S40x500 .f32)) : Prop :=
  ∀ p ∈ L, ∀ x : p.1.shape.Idx, p.2 x = G6 f0 f2 (p.1.emb x)

theorem ok5_cons (f0 : C0 Ideal) (f2 : C2 Ideal) (k o : ℕ) (hk : k < 40) (ho : o = 500 * k) (h0) (h2)
    (w : Vec Ideal S500x80 .f32) (hw : w = k0_pay163 (ctrAt f2 k h2) (blkAt f0 o h0)) (L) (hL : Ok5 f0 f2 L) :
    Ok5 f0 f2 (⟨Rect.unit (s := S20000x80) ![o, 0] S500x80.size h0, w⟩ :: L) := by
  refine List.forall_mem_cons.2 ⟨fun x => ?_, hL⟩
  subst hw
  obtain ⟨i, c, rfl⟩ : ∃ (i : Fin 500) (c : Fin 80), x = ix2 i c := ⟨x 0, x 1, eq_ix2 x⟩
  refine (pay163_apply _ _ i c).trans ?_
  rw [ctrAt_apply f2 k hk, blkAt_apply f0 k hk o ho]
  unfold G5 kS
  have e0 : (((Rect.unit (s := S20000x80) ![o, 0] S500x80.size h0).emb (ix2 i c)) 0).val = 500 * k + i.val := by
    show o + 1 * i.val = _; omega
  have e1 : (((Rect.unit (s := S20000x80) ![o, 0] S500x80.size h0).emb (ix2 i c)) 1).val = c.val := by
    show 0 + 1 * c.val = _; omega
  rw [e0, e1]

theorem ok6_cons (f0 : C0 Ideal) (f2 : C2 Ideal) (k o : ℕ) (hk : k < 40) (ho : o = 500 * k) (h0) (h2)
    (w : Vec Ideal S1x500 .f32) (hw : w = k0_pay164 (ctrAt f2 k h2) (blkAt f0 o h0)) (L) (hL : Ok6 f0 f2 L) :
    Ok6 f0 f2 (⟨Rect.unit (s := S40x500) ![k, 0] S1x500.size h2, w⟩ :: L) := by
  have key : ∀ x : S1x500.Idx, k0_pay164 (ctrAt f2 k h2) (blkAt f0 o h0) x
      = G6 f0 f2 ((Rect.unit (s := S40x500) ![k, 0] S1x500.size h2).emb x) := fun x => by
    obtain ⟨z, i, rfl⟩ : ∃ (z : Fin 1) (i : Fin 500), x = ix2 z i := ⟨x 0, x 1, eq_ix2 x⟩
    obtain rfl : z = 0 := Subsingleton.elim _ _
    rw [pay164_apply]
    unfold G6 kS
    have e0 : (((Rect.unit (s := S40x500) ![k, 0] S1x500.size h2).emb (ix2 0 i)) 0).val = k := by
      show k + 1 * 0 = _; omega
    have e1 : (((Rect.unit (s := S40x500) ![k, 0] S1x500.size h2).emb (ix2 0 i)) 1).val = i.val := by
      show 0 + 1 * i.val = _; omega
    rw [e0, e1, ctrAt_apply f2 k hk]
    simp only [blkAt_apply f0 k hk o ho]
  exact List.forall_mem_cons.2 ⟨fun x => (congrFun hw x).trans (key x), hL⟩

theorem ok5 (f0 : C0 Ideal) (f2 : C2 Ideal) : Ok5 f0 f2 (body_run.sl.H5_40 f0 f2) :=
  ok5_cons f0 f2 39 19500 (by decide) rfl inb_S20000x80_S500x80_19500_0 inb_S40x500_S1x500_39_0 _ rfl _
  (ok5_cons f0 f2 38 19000 (by decide) rfl inb_S20000x80_S500x80_19000_0 inb_S40x500_S1x500_38_0 _ rfl _
  (ok5_cons f0 f2 37 18500 (by decide) rfl inb_S20000x80_S500x80_18500_0 inb_S40x500_S1x500_37_0 _ rfl _
  (ok5_cons f0 f2 36 18000 (by decide) rfl inb_S20000x80_S500x80_18000_0 inb_S40x500_S1x500_36_0 _ rfl _
  (ok5_cons f0 f2 35 17500 (by decide) rfl inb_S20000x80_S500x80_17500_0 inb_S40x500_S1x500_35_0 _ rfl _
  (ok5_cons f0 f2 34 17000 (by decide) rfl inb_S20000x80_S500x80_17000_0 inb_S40x500_S1x500_34_0 _ rfl _
  (ok5_cons f0 f2 33 16500 (by decide) rfl inb_S20000x80_S500x80_16500_0 inb_S40x500_S1x500_33_0 _ rfl _
  (ok5_cons f0 f2 32 16000 (by decide) rfl inb_S20000x80_S500x80_16000_0 inb_S40x500_S1x500_32_0 _ rfl _
  (ok5_cons f0 f2 31 15500 (by decide) rfl inb_S20000x80_S500x80_15500_0 inb_S40x500_S1x500_31_0 _ rfl _
  (ok5_cons f0 f2 30 15000 (by decide) rfl inb_S20000x80_S500x80_15000_0 inb_S40x500_S1x500_30_0 _ rfl _
  (ok5_cons f0 f2 29 14500 (by decide) rfl inb_S20000x80_S500x80_14500_0 inb_S40x500_S1x500_29_0 _ rfl _
  (ok5_cons f0 f2 28 14000 (by decide) rfl inb_S20000x80_S500x80_14000_0 inb_S40x500_S1x500_28_0 _ rfl _
  (ok5_cons f0 f2 27 13500 (by decide) rfl inb_S20000x80_S500x80_13500_0 inb_S40x500_S1x500_27_0 _ rfl _
  (ok5_cons f0 f2 26 13000 (by decide) rfl inb_S20000x80_S500x80_13000_0 inb_S40x500_S1x500_26_0 _ rfl _
  (ok5_cons f0 f2 25 12500 (by decide) rfl inb_S20000x80_S500x80_12500_0 inb_S40x500_S1x500_25_0 _ rfl _
  (ok5_cons f0 f2 24 12000 (by decide) rfl inb_S20000x80_S500x80_12000_0 inb_S40x500_S1x500_24_0 _ rfl _
  (ok5_cons f0 f2 23 11500 (by decide) rfl inb_S20000x80_S500x80_11500_0 inb_S40x500_S1x500_23_0 _ rfl _
  (ok5_cons f0 f2 22 11000 (by decide) rfl inb_S20000x80_S500x80_11000_0 inb_S40x500_S1x500_22_0 _ rfl _
  (ok5_cons f0 f2 21 10500 (by decide) rfl inb_S20000x80_S500x80_10500_0 inb_S40x500_S1x500_21_0 _ rfl _
  (ok5_cons f0 f2 20 10000 (by decide) rfl inb_S20000x80_S500x80_10000_0 inb_S40x500_S1x500_20_0 _ rfl _
  (ok5_cons f0 f2 19 9500 (by decide) rfl inb_S20000x80_S500x80_9500_0 inb_S40x500_S1x500_19_0 _ rfl _
  (ok5_cons f0 f2 18 9000 (by decide) rfl inb_S20000x80_S500x80_9000_0 inb_S40x500_S1x500_18_0 _ rfl _
  (ok5_cons f0 f2 17 8500 (by decide) rfl inb_S20000x80_S500x80_8500_0 inb_S40x500_S1x500_17_0 _ rfl _
  (ok5_cons f0 f2 16 8000 (by decide) rfl inb_S20000x80_S500x80_8000_0 inb_S40x500_S1x500_16_0 _ rfl _
  (ok5_cons f0 f2 15 7500 (by decide) rfl inb_S20000x80_S500x80_7500_0 inb_S40x500_S1x500_15_0 _ rfl _
  (ok5_cons f0 f2 14 7000 (by decide) rfl inb_S20000x80_S500x80_7000_0 inb_S40x500_S1x500_14_0 _ rfl _
  (ok5_cons f0 f2 13 6500 (by decide) rfl inb_S20000x80_S500x80_6500_0 inb_S40x500_S1x500_13_0 _ rfl _
  (ok5_cons f0 f2 12 6000 (by decide) rfl inb_S20000x80_S500x80_6000_0 inb_S40x500_S1x500_12_0 _ rfl _
  (ok5_cons f0 f2 11 5500 (by decide) rfl inb_S20000x80_S500x80_5500_0 inb_S40x500_S1x500_11_0 _ rfl _
  (ok5_cons f0 f2 10 5000 (by decide) rfl inb_S20000x80_S500x80_5000_0 inb_S40x500_S1x500_10_0 _ rfl _
  (ok5_cons f0 f2 9 4500 (by decide) rfl inb_S20000x80_S500x80_4500_0 inb_S40x500_S1x500_9_0 _ rfl _
  (ok5_cons f0 f2 8 4000 (by decide) rfl inb_S20000x80_S500x80_4000_0 inb_S40x500_S1x500_8_0 _ rfl _
  (ok5_cons f0 f2 7 3500 (by decide) rfl inb_S20000x80_S500x80_3500_0 inb_S40x500_S1x500_7_0 _ rfl _
  (ok5_cons f0 f2 6 3000 (by decide) rfl inb_S20000x80_S500x80_3000_0 inb_S40x500_S1x500_6_0 _ rfl _
  (ok5_cons f0 f2 5 2500 (by decide) rfl inb_S20000x80_S500x80_2500_0 inb_S40x500_S1x500_5_0 _ rfl _
  (ok5_cons f0 f2 4 2000 (by decide) rfl inb_S20000x80_S500x80_2000_0 inb_S40x500_S1x500_4_0 _ rfl _
  (ok5_cons f0 f2 3 1500 (by decide) rfl inb_S20000x80_S500x80_1500_0 inb_S40x500_S1x500_3_0 _ rfl _
  (ok5_cons f0 f2 2 1000 (by decide) rfl inb_S20000x80_S500x80_1000_0 inb_S40x500_S1x500_2_0 _ rfl _
  (ok5_cons f0 f2 1 500 (by decide) rfl inb_S20000x80_S500x80_500_0 inb_S40x500_S1x500_1_0 _ rfl _
  (ok5_cons f0 f2 0 0 (by decide) rfl inb_S20000x80_S500x80_0_0 inb_S40x500_S1x500_0_0 _ rfl _
  (fun _ h => nomatch h))))))))))))))))))))))))))))))))))))))))

theorem ok6 (f0 : C0 Ideal) (f2 : C2 Ideal) : Ok6 f0 f2 (body_run.sl.H6_40 f0 f2) :=
  ok6_cons f0 f2 39 19500 (by decide) rfl inb_S20000x80_S500x80_19500_0 inb_S40x500_S1x500_39_0 _ rfl _
  (ok6_cons f0 f2 38 19000 (by decide) rfl inb_S20000x80_S500x80_19000_0 inb_S40x500_S1x500_38_0 _ rfl _
  (ok6_cons f0 f2 37 18500 (by decide) rfl inb_S20000x80_S500x80_18500_0 inb_S40x500_S1x500_37_0 _ rfl _
  (ok6_cons f0 f2 36 18000 (by decide) rfl inb_S20000x80_S500x80_18000_0 inb_S40x500_S1x500_36_0 _ rfl _
  (ok6_cons f0 f2 35 17500 (by decide) rfl inb_S20000x80_S500x80_17500_0 inb_S40x500_S1x500_35_0 _ rfl _
  (ok6_cons f0 f2 34 17000 (by decide) rfl inb_S20000x80_S500x80_17000_0 inb_S40x500_S1x500_34_0 _ rfl _
  (ok6_cons f0 f2 33 16500 (by decide) rfl inb_S20000x80_S500x80_16500_0 inb_S40x500_S1x500_33_0 _ rfl _
  (ok6_cons f0 f2 32 16000 (by decide) rfl inb_S20000x80_S500x80_16000_0 inb_S40x500_S1x500_32_0 _ rfl _
  (ok6_cons f0 f2 31 15500 (by decide) rfl inb_S20000x80_S500x80_15500_0 inb_S40x500_S1x500_31_0 _ rfl _
  (ok6_cons f0 f2 30 15000 (by decide) rfl inb_S20000x80_S500x80_15000_0 inb_S40x500_S1x500_30_0 _ rfl _
  (ok6_cons f0 f2 29 14500 (by decide) rfl inb_S20000x80_S500x80_14500_0 inb_S40x500_S1x500_29_0 _ rfl _
  (ok6_cons f0 f2 28 14000 (by decide) rfl inb_S20000x80_S500x80_14000_0 inb_S40x500_S1x500_28_0 _ rfl _
  (ok6_cons f0 f2 27 13500 (by decide) rfl inb_S20000x80_S500x80_13500_0 inb_S40x500_S1x500_27_0 _ rfl _
  (ok6_cons f0 f2 26 13000 (by decide) rfl inb_S20000x80_S500x80_13000_0 inb_S40x500_S1x500_26_0 _ rfl _
  (ok6_cons f0 f2 25 12500 (by decide) rfl inb_S20000x80_S500x80_12500_0 inb_S40x500_S1x500_25_0 _ rfl _
  (ok6_cons f0 f2 24 12000 (by decide) rfl inb_S20000x80_S500x80_12000_0 inb_S40x500_S1x500_24_0 _ rfl _
  (ok6_cons f0 f2 23 11500 (by decide) rfl inb_S20000x80_S500x80_11500_0 inb_S40x500_S1x500_23_0 _ rfl _
  (ok6_cons f0 f2 22 11000 (by decide) rfl inb_S20000x80_S500x80_11000_0 inb_S40x500_S1x500_22_0 _ rfl _
  (ok6_cons f0 f2 21 10500 (by decide) rfl inb_S20000x80_S500x80_10500_0 inb_S40x500_S1x500_21_0 _ rfl _
  (ok6_cons f0 f2 20 10000 (by decide) rfl inb_S20000x80_S500x80_10000_0 inb_S40x500_S1x500_20_0 _ rfl _
  (ok6_cons f0 f2 19 9500 (by decide) rfl inb_S20000x80_S500x80_9500_0 inb_S40x500_S1x500_19_0 _ rfl _
  (ok6_cons f0 f2 18 9000 (by decide) rfl inb_S20000x80_S500x80_9000_0 inb_S40x500_S1x500_18_0 _ rfl _
  (ok6_cons f0 f2 17 8500 (by decide) rfl inb_S20000x80_S500x80_8500_0 inb_S40x500_S1x500_17_0 _ rfl _
  (ok6_cons f0 f2 16 8000 (by decide) rfl inb_S20000x80_S500x80_8000_0 inb_S40x500_S1x500_16_0 _ rfl _
  (ok6_cons f0 f2 15 7500 (by decide) rfl inb_S20000x80_S500x80_7500_0 inb_S40x500_S1x500_15_0 _ rfl _
  (ok6_cons f0 f2 14 7000 (by decide) rfl inb_S20000x80_S500x80_7000_0 inb_S40x500_S1x500_14_0 _ rfl _
  (ok6_cons f0 f2 13 6500 (by decide) rfl inb_S20000x80_S500x80_6500_0 inb_S40x500_S1x500_13_0 _ rfl _
  (ok6_cons f0 f2 12 6000 (by decide) rfl inb_S20000x80_S500x80_6000_0 inb_S40x500_S1x500_12_0 _ rfl _
  (ok6_cons f0 f2 11 5500 (by decide) rfl inb_S20000x80_S500x80_5500_0 inb_S40x500_S1x500_11_0 _ rfl _
  (ok6_cons f0 f2 10 5000 (by decide) rfl inb_S20000x80_S500x80_5000_0 inb_S40x500_S1x500_10_0 _ rfl _
  (ok6_cons f0 f2 9 4500 (by decide) rfl inb_S20000x80_S500x80_4500_0 inb_S40x500_S1x500_9_0 _ rfl _
  (ok6_cons f0 f2 8 4000 (by decide) rfl inb_S20000x80_S500x80_4000_0 inb_S40x500_S1x500_8_0 _ rfl _
  (ok6_cons f0 f2 7 3500 (by decide) rfl inb_S20000x80_S500x80_3500_0 inb_S40x500_S1x500_7_0 _ rfl _
  (ok6_cons f0 f2 6 3000 (by decide) rfl inb_S20000x80_S500x80_3000_0 inb_S40x500_S1x500_6_0 _ rfl _
  (ok6_cons f0 f2 5 2500 (by decide) rfl inb_S20000x80_S500x80_2500_0 inb_S40x500_S1x500_5_0 _ rfl _
  (ok6_cons f0 f2 4 2000 (by decide) rfl inb_S20000x80_S500x80_2000_0 inb_S40x500_S1x500_4_0 _ rfl _
  (ok6_cons f0 f2 3 1500 (by decide) rfl inb_S20000x80_S500x80_1500_0 inb_S40x500_S1x500_3_0 _ rfl _
  (ok6_cons f0 f2 2 1000 (by decide) rfl inb_S20000x80_S500x80_1000_0 inb_S40x500_S1x500_2_0 _ rfl _
  (ok6_cons f0 f2 1 500 (by decide) rfl inb_S20000x80_S500x80_500_0 inb_S40x500_S1x500_1_0 _ rfl _
  (ok6_cons f0 f2 0 0 (by decide) rfl inb_S20000x80_S500x80_0_0 inb_S40x500_S1x500_0_0 _ rfl _
  (fun _ h => nomatch h))))))))))))))))))))))))))))))))))))))))

/-- The scores before the first pick. -/
def scores0 (f0 : C0 Ideal) (f2 : C2 Ideal) : C5 Ideal := M5.view.writes (Elt Ideal) M5.view.junk (body_run.sl.H5_40 f0 f2)

theorem scores0_apply (f0 : C0 Ideal) (f2 : C2 Ideal) (r : Fin 20000) (c : Fin 80) : sc (scores0 f0 f2) r c = kS f0 f2 r.val c.val :=
  View.read_writes_apply_of_pieces M5.view M5.view.junk (G5 f0 f2) (body_run.sl.H5_40 f0 f2) (ok5 f0 f2) (ix2 r c)
    (View.cover_of_tiled (body_run.sl.H5_40 f0 f2) ![500, 80] rfl (ix2 r c))

theorem rows0_apply (f0 : C0 Ideal) (f2 : C2 Ideal) (k : Fin 40 × Fin 500) :
    body_run.sl.v856 f0 f2 (ix2 k.1 k.2) = (Finset.univ : Finset (Fin 80)).fold max ⊥ fun c => kS f0 f2 (rowNum k) c.val := by
  have h := View.read_writes_apply_of_pieces M6.view M6.view.junk (G6 f0 f2) (body_run.sl.H6_40 f0 f2) (ok6 f0 f2) (ix2 k.1 k.2)
    (View.cover_of_tiled (body_run.sl.H6_40 f0 f2) ![1, 500] rfl (ix2 k.1 k.2))
  refine Eq.trans ?_ h
  unfold body_run.sl.v856 View.readCov
  refine (View.readAt_apply ..).trans (congrArg _ (funext fun a => Fin.ext ?_))
  fin_cases a
  · show 0 + 1 * k.1.val = k.1.val; omega
  · show 0 + 1 * k.2.val = k.2.val; omega

/-- The loop's state before the first pick. -/
def start (f0 : C0 Ideal) (f2 : C2 Ideal) : WSt Ideal :=
  { n := 0, v := k0_pay168 (body_run.sl.v856 f0 f2), rm := body_run.sl.v856 f0 f2, s5 := scores0 f0 f2, s7 := picks0 Ideal }

theorem inv_start (f0 : C0 Ideal) (f1 : C1 Ideal) (f2 : C2 Ideal) : Inv (kS f0 f2) f1 0 (fun _ => 0) (start f0 f2) := by
  have hv : (start f0 f2).v = k0_pay168 (start f0 f2).rm := by unfold start; dsimp only
  have h5 : (start f0 f2).s5 = scores0 f0 f2 := by unfold start; dsimp only
  have h7 : (start f0 f2).s7 = picks0 Ideal := by unfold start; dsimp only
  have hr : (start f0 f2).rm = body_run.sl.v856 f0 f2 := by unfold start; dsimp only
  refine ⟨by unfold start; dsimp only, hv, fun r c => ⟨fun ⟨_, h, _⟩ => absurd h (Nat.not_lt_zero _), fun _ => ?_⟩, fun k c => ?_, fun k => ?_,
    fun j hj => absurd hj (Nat.not_lt_zero _), fun i h => absurd h (Nat.not_lt_zero _), fun i h => absurd h (Nat.not_lt_zero _),
    fun i h => absurd h (Nat.not_lt_zero _), fun i _ j => by rw [h7]⟩
  · rw [h5]; exact scores0_apply f0 f2 r c
  · rw [h5, hr]
    refine (scores0_apply f0 f2 (rowFin k) c).trans_le (le_of_le_of_eq ?_ (rows0_apply f0 f2 k).symm)
    exact (fold_max_spec fun c : Fin 80 => kS f0 f2 (rowNum k) c.val).1 c
  · rw [h5, hr]
    obtain ⟨c, hc⟩ := (fold_max_spec fun c : Fin 80 => kS f0 f2 (rowNum k) c.val).2
    exact ⟨c, (scores0_apply f0 f2 (rowFin k) c).trans (hc.trans (rows0_apply f0 f2 k).symm)⟩

/-- With positive scores left at every trip, the loop makes the 1000 picks of the scores. -/
theorem picks_made (f0 : C0 Ideal) (f1 : C1 Ideal) (f2 : C2 Ideal)
    (hex : ∀ n < 1000, ∀ p : ℕ → ℕ, ∃ i < 1600000, 0 < flat (kS f0 f2) i ∧ ∀ l < n, p l ≠ i) :
    ∃ p, Inv (kS f0 f2) f1 1000 p (wrun body_run.sl.v840 body_run.sl.v841 f1 1000 (start f0 f2)) :=
  Inv.run body_run.sl.v840 body_run.sl.v841 (fun c => by unfold body_run.sl.v840; pointwise) (fun j => by unfold body_run.sl.v841; pointwise) hex 1000 0 _ _ rfl
    (inv_start f0 f1 f2)

end Cert.Proof.KernelIdeal

end
-- ==== Proof.KGeom.lean ====
module

public import proofs.«01_k».proof.Proof.KScore
public import proofs.«01_k».proof.Proof.BoxFns

@[expose] public section

set_option maxRecDepth 16384

noncomputable section

namespace Cert.Proof.KernelIdeal

open Cert.KernelIdeal Cert.KernelIdeal.Gen
open Idealize.ShloMosaic Idealize.ShloMosaic.TcCoe
open Cert.Proof.Boxes

variable (s7 : C7 Ideal)

/-- A record's deltas, anchor, box and moved box. -/
def dl (i : Fin 1024) (k : Fin 4) : EReal := pk s7 i ⟨k.val, by omega⟩
def anc4 (i : Fin 1024) (k : Fin 4) : EReal := pk s7 i ⟨4 + k.val, by omega⟩
def bxK (i : Fin 1024) : Fin 4 → EReal := box (dl s7 i) (anc4 s7 i)
def mvK (i : Fin 1024) : Fin 4 → EReal := moved (dl s7 i) (anc4 s7 i) (pk s7 i 9)

theorem r27_apply (i : Fin 1024) (j : Fin 16) : body_run.sl.r_27 s7 (ix2 i j) = pk s7 i j := by
  unfold body_run.sl.r_27
  refine (View.readAt_apply ..).trans ?_
  unfold pk
  refine congrArg (s7 : S1024x16.Idx → EReal) (funext fun a => Fin.ext ?_)
  fin_cases a
  · show 0 + 1 * i.val = i.val; omega
  · show 0 + 1 * j.val = j.val; omega

theorem box_apply (i : Fin 1024) (k : Fin 4) :
    k0_pay180 (body_run.sl.r_28 s7) (body_run.sl.r_29 s7) (body_run.sl.r_30 s7) (body_run.sl.r_31 s7) (body_run.sl.r_32 s7) (ix2 i k)
      = bxK s7 i k := by
  have e : ∀ j, _ = pk s7 i j := r27_apply s7 i
  unfold body_run.sl.r_27 at e
  unfold body_run.sl.r_28 body_run.sl.r_29 body_run.sl.r_30 body_run.sl.r_31 body_run.sl.r_32 bxK
  generalize View.readAt (Elt Ideal) M7.view _ s7 = v at e ⊢
  fin_cases k
  · show _ = box _ _ 0
    pointwise [k0_pay180, k0_pay170, k0_pay171, k0_pay172, k0_pay173, k0_pay174, k0_pay169, k0_pay176]
    rw [e, e, e, e]; rfl
  · show _ = box _ _ 1
    pointwise [k0_pay180, k0_pay170, k0_pay171, k0_pay172, k0_pay173, k0_pay174, k0_pay169, k0_pay175, k0_pay177]
    rw [e, e, e, e]; rfl
  · show _ = box _ _ 2
    pointwise [k0_pay180, k0_pay170, k0_pay171, k0_pay172, k0_pay173, k0_pay174, k0_pay169, k0_pay178]
    rw [e, e, e, e]; rfl
  · show _ = box _ _ 3
    pointwise [k0_pay180, k0_pay170, k0_pay171, k0_pay172, k0_pay173, k0_pay174, k0_pay169, k0_pay175, k0_pay179]
    rw [e, e, e, e]; rfl

theorem mv0_apply (i : Fin 1024) : body_run.sl.r_33 s7 (ix2 i 0) = mvK s7 i 0 := by
  have e : ∀ j, _ = pk s7 i j := r27_apply s7 i
  unfold body_run.sl.r_27 at e
  unfold body_run.sl.r_33 body_run.sl.r_27 body_run.sl.r_30 body_run.sl.r_32
  generalize View.readAt (Elt Ideal) M7.view _ s7 = v at e ⊢
  pointwise [k0_pay182, k0_pay170, k0_pay171, k0_pay172, k0_pay173, k0_pay174, k0_pay169, k0_pay175, k0_pay176, k0_pay177, k0_pay178, k0_pay179, k0_pay181]
  rw [e, e, e, e, e]; rfl

theorem mv1_apply (i : Fin 1024) : body_run.sl.r_34 s7 (ix2 i 0) = mvK s7 i 1 := by
  have e : ∀ j, _ = pk s7 i j := r27_apply s7 i
  unfold body_run.sl.r_27 at e
  unfold body_run.sl.r_34 body_run.sl.r_27 body_run.sl.r_28 body_run.sl.r_29 body_run.sl.r_31
  generalize View.readAt (Elt Ideal) M7.view _ s7 = v at e ⊢
  pointwise [k0_pay183, k0_pay170, k0_pay171, k0_pay172, k0_pay173, k0_pay174, k0_pay169, k0_pay175, k0_pay176, k0_pay177, k0_pay178, k0_pay179, k0_pay181]
  rw [e, e, e, e, e]; rfl

theorem mv2_apply (i : Fin 1024) : body_run.sl.r_35 s7 (ix2 i 0) = mvK s7 i 2 := by
  have e : ∀ j, _ = pk s7 i j := r27_apply s7 i
  unfold body_run.sl.r_27 at e
  unfold body_run.sl.r_35 body_run.sl.r_27 body_run.sl.r_30 body_run.sl.r_32
  generalize View.readAt (Elt Ideal) M7.view _ s7 = v at e ⊢
  pointwise [k0_pay184, k0_pay170, k0_pay171, k0_pay172, k0_pay173, k0_pay174, k0_pay169, k0_pay175, k0_pay176, k0_pay177, k0_pay178, k0_pay179, k0_pay181]
  rw [e, e, e, e, e]; rfl

theorem mv3_apply (i : Fin 1024) : body_run.sl.r_36 s7 (ix2 i 0) = mvK s7 i 3 := by
  have e : ∀ j, _ = pk s7 i j := r27_apply s7 i
  unfold body_run.sl.r_27 at e
  unfold body_run.sl.r_36 body_run.sl.r_27 body_run.sl.r_28 body_run.sl.r_29 body_run.sl.r_31
  generalize View.readAt (Elt Ideal) M7.view _ s7 = v at e ⊢
  pointwise [k0_pay185, k0_pay170, k0_pay171, k0_pay172, k0_pay173, k0_pay174, k0_pay169, k0_pay175, k0_pay176, k0_pay177, k0_pay178, k0_pay179, k0_pay181]
  rw [e, e, e, e, e]; rfl

theorem mvT0_apply (j : Fin 1024) : body_run.sl.r_38 s7 (ix2 0 j) = mvK s7 j 0 := by
  refine Eq.trans ?_ (mv0_apply s7 j)
  unfold body_run.sl.r_38 body_run.sl.r_33
  pointwise [k0_pay187]

theorem mvT1_apply (j : Fin 1024) : body_run.sl.r_39 s7 (ix2 0 j) = mvK s7 j 1 := by
  refine Eq.trans ?_ (mv1_apply s7 j)
  unfold body_run.sl.r_39 body_run.sl.r_34
  pointwise [k0_pay188]

theorem mvT2_apply (j : Fin 1024) : body_run.sl.r_40 s7 (ix2 0 j) = mvK s7 j 2 := by
  refine Eq.trans ?_ (mv2_apply s7 j)
  unfold body_run.sl.r_40 body_run.sl.r_35
  pointwise [k0_pay189]

theorem mvT3_apply (j : Fin 1024) : body_run.sl.r_41 s7 (ix2 0 j) = mvK s7 j 3 := by
  refine Eq.trans ?_ (mv3_apply s7 j)
  unfold body_run.sl.r_41 body_run.sl.r_36
  pointwise [k0_pay190]

theorem area_apply (i : Fin 1024) : body_run.sl.r_37 s7 (ix2 i 0) = area (mvK s7 i) := by
  unfold area
  rw [← mv0_apply s7 i, ← mv1_apply s7 i, ← mv2_apply s7 i, ← mv3_apply s7 i]
  unfold body_run.sl.r_37 body_run.sl.r_33 body_run.sl.r_34 body_run.sl.r_35 body_run.sl.r_36
  pointwise [k0_pay186]

theorem areaT_apply (j : Fin 1024) : body_run.sl.r_42 s7 (ix2 0 j) = area (mvK s7 j) := by
  refine Eq.trans ?_ (area_apply s7 j)
  unfold body_run.sl.r_42 body_run.sl.r_37
  pointwise [k0_pay191]

/-! ### The overlaps, eight blocks of 128 rows -/

/-- The overlaps from the coordinates' columns and rows. -/
def cell (x0 x1 x2 x3 a : Vec Ideal S1024x1 .f32) (y0 y1 y2 y3 b : Vec Ideal S1x1024 .f32) (i j : Fin 1024) : EReal :=
  Ideal.div (max (min (x2 (ix2 i 0)) (y2 (ix2 0 j)) - max (x0 (ix2 i 0)) (y0 (ix2 0 j))) 0
      * max (min (x3 (ix2 i 0)) (y3 (ix2 0 j)) - max (x1 (ix2 i 0)) (y1 (ix2 0 j))) 0)
    (a (ix2 i 0) + b (ix2 0 j) - max (min (x2 (ix2 i 0)) (y2 (ix2 0 j)) - max (x0 (ix2 i 0)) (y0 (ix2 0 j))) 0
      * max (min (x3 (ix2 i 0)) (y3 (ix2 0 j)) - max (x1 (ix2 i 0)) (y1 (ix2 0 j))) 0 + Ideal.ofBits .f32 0x33D6BF95#32)

theorem cell_eq (i j : Fin 1024) : cell (body_run.sl.r_33 s7) (body_run.sl.r_34 s7) (body_run.sl.r_35 s7) (body_run.sl.r_36 s7)
    (body_run.sl.r_37 s7) (body_run.sl.r_38 s7) (body_run.sl.r_39 s7) (body_run.sl.r_40 s7) (body_run.sl.r_41 s7) (body_run.sl.r_42 s7) i j
      = iou (mvK s7 i) (mvK s7 j) := by
  unfold cell iou inter
  rw [mv0_apply, mv1_apply, mv2_apply, mv3_apply, area_apply, mvT0_apply, mvT1_apply, mvT2_apply, mvT3_apply, areaT_apply]

section Blocks

variable (x0 x1 x2 x3 a : Vec Ideal S1024x1 .f32) (y0 y1 y2 y3 b : Vec Ideal S1x1024 .f32) (i : Fin 128) (j : Fin 1024)

theorem blk1 : (k0_pay197 (F := Ideal) x0 x1 x2 x3 a y0 y1 y2 y3 b (ix2 i j) : EReal) = cell x0 x1 x2 x3 a y0 y1 y2 y3 b ⟨128 + i.val, by omega⟩ j := by
  pointwise [k0_pay197]
  rfl

theorem blk2 : (k0_pay198 (F := Ideal) x0 x1 x2 x3 a y0 y1 y2 y3 b (ix2 i j) : EReal) = cell x0 x1 x2 x3 a y0 y1 y2 y3 b ⟨256 + i.val, by omega⟩ j := by
  pointwise [k0_pay198]
  rfl

theorem blk4 : (k0_pay204 (F := Ideal) x0 x1 x2 x3 a y0 y1 y2 y3 b (ix2 i j) : EReal) = cell x0 x1 x2 x3 a y0 y1 y2 y3 b ⟨512 + i.val, by omega⟩ j := by
  pointwise [k0_pay204]
  rfl

theorem blk5 : (k0_pay205 (F := Ideal) x0 x1 x2 x3 a y0 y1 y2 y3 b (ix2 i j) : EReal) = cell x0 x1 x2 x3 a y0 y1 y2 y3 b ⟨640 + i.val, by omega⟩ j := by
  pointwise [k0_pay205]
  rfl

theorem blk7 : (k0_pay211 (F := Ideal) x0 x1 x2 x3 a y0 y1 y2 y3 b (ix2 i j) : EReal) = cell x0 x1 x2 x3 a y0 y1 y2 y3 b ⟨896 + i.val, by omega⟩ j := by
  pointwise [k0_pay211]
  rfl

end Blocks

theorem blk0 (i : Fin 128) (j : Fin 1024) : k0_pay196 (body_run.sl.r_37 s7) (body_run.sl.r_42 s7) (body_run.sl.r_43 s7) (body_run.sl.r_44 s7)
    (body_run.sl.r_45 s7) (body_run.sl.r_46 s7) (ix2 i j) = iou (mvK s7 ⟨0 + i.val, by omega⟩) (mvK s7 j) := by
  have h0 : k0_pay182 (body_run.sl.r_27 s7) (body_run.sl.r_30 s7) (body_run.sl.r_32 s7) = body_run.sl.r_33 s7 := rfl
  have h1 : k0_pay183 (body_run.sl.r_27 s7) (body_run.sl.r_28 s7) (body_run.sl.r_29 s7) (body_run.sl.r_31 s7) = body_run.sl.r_34 s7 := rfl
  have h2 : k0_pay184 (body_run.sl.r_27 s7) (body_run.sl.r_30 s7) (body_run.sl.r_32 s7) = body_run.sl.r_35 s7 := rfl
  have h3 : k0_pay185 (body_run.sl.r_27 s7) (body_run.sl.r_28 s7) (body_run.sl.r_29 s7) (body_run.sl.r_31 s7) = body_run.sl.r_36 s7 := rfl
  unfold body_run.sl.r_43 body_run.sl.r_44 body_run.sl.r_45 body_run.sl.r_46
  pointwise [k0_pay196, k0_pay192, k0_pay193, k0_pay194, k0_pay195, k0_pay187, k0_pay188, k0_pay189, k0_pay190]
  rw [h0, h1, h2, h3]
  unfold iou inter
  rw [mv0_apply, mv1_apply, mv2_apply, mv3_apply, mv0_apply, mv1_apply, mv2_apply, mv3_apply, area_apply, areaT_apply]

theorem blk3 (i : Fin 128) (j : Fin 1024) : k0_pay203 (body_run.sl.r_37 s7) (body_run.sl.r_42 s7) (body_run.sl.r_48 s7) (body_run.sl.r_49 s7)
    (body_run.sl.r_50 s7) (body_run.sl.r_51 s7) (ix2 i j) = iou (mvK s7 ⟨384 + i.val, by omega⟩) (mvK s7 j) := by
  rw [← cell_eq]
  unfold body_run.sl.r_48 body_run.sl.r_49 body_run.sl.r_50 body_run.sl.r_51
  pointwise [k0_pay203, k0_pay199, k0_pay200, k0_pay201, k0_pay202]
  rfl

theorem blk6 (i : Fin 128) (j : Fin 1024) : k0_pay210 (body_run.sl.r_37 s7) (body_run.sl.r_42 s7) (body_run.sl.r_53 s7) (body_run.sl.r_54 s7)
    (body_run.sl.r_55 s7) (body_run.sl.r_56 s7) (ix2 i j) = iou (mvK s7 ⟨768 + i.val, by omega⟩) (mvK s7 j) := by
  rw [← cell_eq]
  unfold body_run.sl.r_53 body_run.sl.r_54 body_run.sl.r_55 body_run.sl.r_56
  pointwise [k0_pay210, k0_pay206, k0_pay207, k0_pay208, k0_pay209]
  rfl

/-- The overlaps written, by row and column. -/
def G9 (y : S1024x1024.Idx) : Elt Ideal .f32 := iou (mvK s7 (y 0)) (mvK s7 (y 1))

def Ok9 (L : List (View.Piece (Elt Ideal) S1024x1024 .f32)) : Prop :=
  ∀ p ∈ L, ∀ x : p.1.shape.Idx, p.2 x = G9 s7 (p.1.emb x)

theorem ok9_cons (o : ℕ) (h) (w : Vec Ideal S128x1024 .f32) (ho : o + 128 ≤ 1024)
    (hw : ∀ (i : Fin 128) (j : Fin 1024), w (ix2 i j) = iou (mvK s7 ⟨o + i.val, by omega⟩) (mvK s7 j)) (L) (hL : Ok9 s7 L) :
    Ok9 s7 (⟨Rect.unit (s := S1024x1024) ![o, 0] S128x1024.size h, w⟩ :: L) := by
  have key : ∀ x : S128x1024.Idx, w x = G9 s7 ((Rect.unit (s := S1024x1024) ![o, 0] S128x1024.size h).emb x) := fun x => by
    obtain ⟨i, j, rfl⟩ : ∃ (i : Fin 128) (j : Fin 1024), x = ix2 i j := ⟨x 0, x 1, eq_ix2 x⟩
    rw [hw]
    unfold G9
    have e0 : (((Rect.unit (s := S1024x1024) ![o, 0] S128x1024.size h).emb (ix2 i j)) 0) = (⟨o + i.val, by omega⟩ : Fin 1024) :=
      Fin.ext (show o + 1 * i.val = o + i.val by omega)
    have e1 : (((Rect.unit (s := S1024x1024) ![o, 0] S128x1024.size h).emb (ix2 i j)) 1) = j :=
      Fin.ext (show 0 + 1 * j.val = j.val by omega)
    rw [e0, e1]
  exact List.forall_mem_cons.2 ⟨key, hL⟩

theorem ok9 : Ok9 s7 (body_run.sl.H9_8 s7) :=
  ok9_cons s7 896 inb_S1024x1024_S128x1024_896_0 _ (by decide) (fun i j => (blk7 _ _ _ _ _ _ _ _ _ _ i j).trans (cell_eq s7 _ j)) _
  (ok9_cons s7 768 inb_S1024x1024_S128x1024_768_0 _ (by decide) (fun i j => blk6 s7 i j) _
  (ok9_cons s7 640 inb_S1024x1024_S128x1024_640_0 _ (by decide) (fun i j => (blk5 _ _ _ _ _ _ _ _ _ _ i j).trans (cell_eq s7 _ j)) _
  (ok9_cons s7 512 inb_S1024x1024_S128x1024_512_0 _ (by decide) (fun i j => (blk4 _ _ _ _ _ _ _ _ _ _ i j).trans (cell_eq s7 _ j)) _
  (ok9_cons s7 384 inb_S1024x1024_S128x1024_384_0 _ (by decide) (fun i j => blk3 s7 i j) _
  (ok9_cons s7 256 inb_S1024x1024_S128x1024_256_0 _ (by decide) (fun i j => (blk2 _ _ _ _ _ _ _ _ _ _ i j).trans (cell_eq s7 _ j)) _
  (ok9_cons s7 128 inb_S1024x1024_S128x1024_128_0 _ (by decide) (fun i j => (blk1 _ _ _ _ _ _ _ _ _ _ i j).trans (cell_eq s7 _ j)) _
  (ok9_cons s7 0 inb_S1024x1024_S128x1024_0_0 _ (by decide) (fun i j => blk0 s7 i j) _ (fun _ h => nomatch h))))))))

/-- The overlaps' scratch. -/
def ovl : C9 Ideal := M9.view.writes (Elt Ideal) M9.view.junk (body_run.sl.H9_8 s7)

theorem ovl_cover (y : S1024x1024.Idx) : ∃ p ∈ body_run.sl.H9_8 s7, y ∈ p.1.set :=
  View.cover_of_tiled (body_run.sl.H9_8 s7) ![128, 1024] rfl y

theorem ovl_read (y : S1024x1024.Idx) : View.read (Elt Ideal) M9.view (ovl s7) y = G9 s7 y := by
  unfold ovl
  exact View.read_writes_apply_of_pieces M9.view M9.view.junk (G9 s7) (body_run.sl.H9_8 s7) (ok9 s7) y (ovl_cover s7 y)

theorem read9 (f : C9 Ideal) (y : S1024x1024.Idx) : (f : S1024x1024.Idx → EReal) y = View.read (Elt Ideal) M9.view f y := rfl

theorem G9_apply (i j : Fin 1024) : G9 s7 (ix2 i j) = iou (mvK s7 i) (mvK s7 j) := by
  unfold G9
  rw [show (ix2 i j : S1024x1024.Idx) 0 = i from rfl, show (ix2 i j : S1024x1024.Idx) 1 = j from rfl]

theorem ovl_apply (i j : Fin 1024) : (ovl s7 : S1024x1024.Idx → EReal) (ix2 i j) = iou (mvK s7 i) (mvK s7 j) := by
  rw [read9 (ovl s7) (ix2 i j), ovl_read s7 (ix2 i j), G9_apply s7 i j]

/-- The boxes' scratch. -/
def bxs : C8 Ideal := M8.view.writes (Elt Ideal) M8.view.junk (body_run.sl.H8_1 s7)

theorem fill_boxes (f8 : C8 Ideal) (w : Vec Ideal S1024x4 .f32) : M8.view.writes (Elt Ideal) f8
    [⟨Rect.unit (s := S1024x4) ![0, 0] S1024x4.size inb_S1024x4_S1024x4_0_0, w⟩] = w :=
  funext fun y => whole_hit (b := cc0_scratch3) f8
    (Rect.unit (s := S1024x4) ![0, 0] S1024x4.size inb_S1024x4_S1024x4_0_0) w y y fun a => by
      match a with
      | ⟨0, _⟩ => exact ((Nat.zero_add _).trans (Nat.one_mul _)).symm
      | ⟨1, _⟩ => exact ((Nat.zero_add _).trans (Nat.one_mul _)).symm

theorem bxs_apply (i : Fin 1024) (k : Fin 4) : (bxs s7 : S1024x4.Idx → EReal) (ix2 i k) = bxK s7 i k := by
  have h : bxs s7 = k0_pay180 (body_run.sl.r_28 s7) (body_run.sl.r_29 s7) (body_run.sl.r_30 s7) (body_run.sl.r_31 s7) (body_run.sl.r_32 s7) := by
    unfold bxs body_run.sl.H8_1
    exact fill_boxes _ _
  rw [h]
  exact box_apply s7 i k

end Cert.Proof.KernelIdeal

end
-- ==== Proof.KNms.lean ====
module

public import proofs.«01_k».proof.Proof.KGeom

@[expose] public section

set_option maxRecDepth 16384

noncomputable section

namespace Cert.Proof.KernelIdeal

open Cert.KernelIdeal Cert.KernelIdeal.Gen
open Idealize.ShloMosaic Idealize.ShloMosaic.TcCoe
open Cert.Proof.Boxes
open scoped Classical

/-! ### One suppression on lanes that hold zero or one -/

theorem half_bits : Ideal.ofBits .f32 0x3F000000#32 = ((1 / 2 : ℝ) : EReal) := by
  simp [Ideal.ofBits, Ideal.ieee]
  rw [← EReal.coe_mul]
  congr 1
  norm_num

theorem neg_one_bits : Ideal.ofBits .f32 0xBF800000#32 = (-1 : EReal) := by
  simp [Ideal.ofBits, Ideal.ieee]
  rw [← EReal.coe_mul]
  norm_num

theorem sgt_lanes (i j : Fin 1024) : IntOp.cmpi .sgt (BitVec.ofNat 32 j.val) (BitVec.ofNat 32 i.val) = 1#1 ↔ i.val < j.val := by
  unfold IntOp.cmpi
  simp only [BitVec.slt, toInt_small i.val (by omega), toInt_small j.val (by omega)]
  by_cases h : i.val < j.val <;> simp [h]

theorem bit_cases (b : BitVec 1) : b = 0#1 ∨ b = 1#1 := by revert b; decide

theorem andi_one (a b : BitVec 1) : IntOp.andi a b = 1#1 ↔ a = 1#1 ∧ b = 1#1 := by revert a b; decide

theorem ofBool_one (p : Prop) [Decidable p] : BitVec.ofBool (decide p) = 1#1 ↔ p := by
  by_cases h : p <;> simp [h]

/-- A bit widened to a word, as a float. -/
theorem bit_float (b : BitVec 1) : (FloatOps.sitofp (F := Ideal) .f32 (BitVec.setWidth 32 b) : EReal) = if b = 1#1 then 1 else 0 := by
  show (((BitVec.setWidth 32 b).toInt : ℝ) : EReal) = _
  rcases bit_cases b with rfl | rfl
  · rw [if_neg (by decide), show (BitVec.setWidth 32 0#1).toInt = 0 from by decide]; simp
  · rw [if_pos rfl, show (BitVec.setWidth 32 1#1).toInt = 1 from by decide]; simp

theorem nmsSub_apply (row keep : FVec Ideal S1x1024 .f32) (i : Fin 1024) (w : BitVec 32) (hw : w = BitVec.ofNat 32 i.val) (P : ℕ → Prop)
    (hk : ∀ j : Fin 1024, keep (ix2 0 j) = if P j.val then (1 : EReal) else 0) (j : Fin 1024) :
    nmsSub row w keep (ix2 0 j)
      = if P j.val ∧ ¬ (Ideal.ofBits .f32 0x3F19999A#32 < row (ix2 0 j) ∧ i.val < j.val ∧ P i.val) then (1 : EReal) else 0 := by
  subst hw
  have hsum : (∑ x : Fin 1024, Scalar.select (IntOp.cmpi .eq (BitVec.ofNat 32 x.val) (BitVec.ofNat 32 i.val)) (keep (ix2 0 x)) (0 : EReal))
      = if P i.val then 1 else 0 := by
    rw [← hk i]
    rw [Finset.sum_eq_single i]
    · rw [select_eq, if_pos ((cmpi_eq_one _ _).2 rfl)]
    · intro x _ hx
      rw [select_eq, if_neg]
      rw [cmpi_eq_one, ofNat_inj (by omega) (by omega)]
      exact fun e => hx (Fin.ext e)
    · exact fun h => absurd (Finset.mem_univ _) h
  pointwise [nmsSub]
  rw [bit_float, hk j]
  simp only [andi_one, sgt_lanes, ofBool_one, hsum, Finset.sum_const, Finset.card_univ, Fintype.card_fin, one_smul]
  have hh : (Ideal.ofBits .f32 0x3F000000#32 < if P i.val then (1 : EReal) else 0) ↔ P i.val := by
    rw [half_bits]
    by_cases h : P i.val
    · simp only [h, if_true, iff_true]
      exact_mod_cast (by norm_num : (1 / 2 : ℝ) < 1)
    · simp only [h, if_false, iff_false, not_lt]
      exact_mod_cast (by norm_num : (0 : ℝ) ≤ 1 / 2)
  simp only [hh]
  by_cases h1 : P j.val <;> by_cases h2 : (Ideal.ofBits .f32 0x3F19999A#32 < row (ix2 0 j) ∧ i.val < j.val ∧ P i.val)
  · have h3 : (Ideal.ofBits .f32 0x3F19999A#32 < row (ix2 0 j) ∧ i.val < j.val) ∧ P i.val := ⟨⟨h2.1, h2.2.1⟩, h2.2.2⟩
    rw [if_pos h1, if_pos h3, if_neg (fun h => h.2 h2), one_mul]
    exact EReal.sub_self (EReal.coe_ne_top 1) (EReal.coe_ne_bot 1)
  · have h3 : ¬ ((Ideal.ofBits .f32 0x3F19999A#32 < row (ix2 0 j) ∧ i.val < j.val) ∧ P i.val) := fun h => h2 ⟨h.1.1, h.1.2, h.2⟩
    rw [if_pos h1, if_neg h3, if_pos ⟨h1, h2⟩, one_mul, sub_zero]
  · rw [if_neg h1, zero_mul, if_neg (fun h => h1 h.1)]
  · rw [if_neg h1, zero_mul, if_neg (fun h => h1 h.1)]

/-! ### The suppression loop -/

/-- The overlaps by row and lane. -/
def ovN (f9 : C9 Ideal) (i j : ℕ) : EReal :=
  if h : i < 1024 ∧ j < 1024 then (f9 : S1024x1024.Idx → EReal) (ix2 ⟨i, h.1⟩ ⟨j, h.2⟩) else 0

theorem trips1 : k0_t1_loop.trips = 125 := by decide +kernel

theorem off5_val : ∀ k : Fin k0_t1_loop.trips, k0_off5 k 0 = 8 * k.val ∧ k0_off5 k 1 = 0 := by decide +kernel

theorem nmsBlk_apply (f9 : C9 Ideal) (k : Fin k0_t1_loop.trips) (r : Fin 8) (j : Fin 1024) :
    nmsBlk f9 k (ix2 r j) = ovN f9 (8 * k.val + r.val) j.val := by
  have hk : k.val < 125 := trips1 ▸ k.isLt
  obtain ⟨e0, e1⟩ := off5_val k
  unfold nmsBlk ovN
  rw [dif_pos ⟨by omega, j.isLt⟩]
  refine congrArg (f9 : S1024x1024.Idx → EReal) (funext fun a => Fin.ext ?_)
  fin_cases a
  · show k0_off5 k 0 + 1 * r.val = 8 * k.val + r.val; omega
  · show k0_off5 k 1 + 1 * j.val = j.val; omega

theorem iv_val : ∀ k : Fin k0_t1_loop.trips, ∀ r : Fin 8,
    Scalar.addi (Scalar.muli (Scf.iv 0#32 1#32 k) 8#32) (BitVec.ofNat 32 r.val) = BitVec.ofNat 32 (8 * k.val + r.val) := by
  decide +kernel

/-- One more suppression of the loop. -/
theorem sub_kept (f9 : C9 Ideal) (k : Fin k0_t1_loop.trips) (r : Fin 8) (row keep : FVec Ideal S1x1024 .f32)
    (hrow : ∀ j : Fin 1024, row (ix2 0 j) = nmsBlk f9 k (ix2 r j)) (w : BitVec 32) (hw : w = BitVec.ofNat 32 r.val)
    (hk : ∀ j : Fin 1024, keep (ix2 0 j) = if kept (ovN f9) (8 * k.val + r.val) j.val then (1 : EReal) else 0) (j : Fin 1024) :
    nmsSub row (Scalar.addi (Scalar.muli (Scf.iv 0#32 1#32 k) 8#32) w) keep (ix2 0 j)
      = if kept (ovN f9) (8 * k.val + r.val + 1) j.val then (1 : EReal) else 0 := by
  subst hw
  have hkk : k.val < 125 := trips1 ▸ k.isLt
  rw [nmsSub_apply row keep ⟨8 * k.val + r.val, by omega⟩ _ (iv_val k r) _ hk j, hrow, nmsBlk_apply]
  exact if_congr Iff.rfl rfl rfl

theorem trip_kept (f9 : C9 Ideal) (k : Fin k0_t1_loop.trips) (keep : FVec Ideal S1x1024 .f32)
    (hk : ∀ j : Fin 1024, keep (ix2 0 j) = if kept (ovN f9) (8 * k.val) j.val then (1 : EReal) else 0) (j : Fin 1024) :
    nmsTrip (nmsBlk f9 k) (Scf.iv 0#32 1#32 k) keep (ix2 0 j) = if kept (ovN f9) (8 * (k.val + 1)) j.val then (1 : EReal) else 0 := by
  unfold nmsTrip
  refine sub_kept f9 k 7 _ _ (fun j => by pointwise) _ rfl (fun j => ?_) j
  refine sub_kept f9 k 6 _ _ (fun j => by pointwise) _ rfl (fun j => ?_) j
  refine sub_kept f9 k 5 _ _ (fun j => by pointwise) _ rfl (fun j => ?_) j
  refine sub_kept f9 k 4 _ _ (fun j => by pointwise) _ rfl (fun j => ?_) j
  refine sub_kept f9 k 3 _ _ (fun j => by pointwise) _ rfl (fun j => ?_) j
  refine sub_kept f9 k 2 _ _ (fun j => by pointwise) _ rfl (fun j => ?_) j
  refine sub_kept f9 k 1 _ _ (fun j => by pointwise) _ rfl (fun j => ?_) j
  exact sub_kept f9 k 0 _ _ (fun j => by pointwise) _ rfl hk j

theorem nmsSt_kept (f9 : C9 Ideal) : ∀ k, k ≤ 125 → ∀ j : Fin 1024,
    nmsSt f9 k0_pay1 k (ix2 0 j) = if kept (ovN f9) (8 * k) j.val then (1 : EReal) else 0
  | 0, _, j => by
    rw [nmsSt]
    pointwise [k0_pay1]
    exact (if_pos trivial).symm
  | k + 1, h, j => by
    have hk : k < k0_t1_loop.trips := trips1 ▸ (by omega)
    have := nmsSt_succ f9 k0_pay1 ⟨k, hk⟩
    dsimp only at this
    rw [this]
    exact trip_kept f9 ⟨k, hk⟩ _ (nmsSt_kept f9 k (by omega)) j

/-- The kept lanes when the loop has ended. -/
theorem nms_end (f9 : C9 Ideal) (j : Fin 1024) :
    nmsSt f9 k0_pay1 k0_t1_loop.trips (ix2 0 j) = if kept (ovN f9) 1000 j.val then (1 : EReal) else 0 := by
  rw [trips1]; exact nmsSt_kept f9 125 le_rfl j

/-! ### The selection -/

theorem pay7_apply (x : FVec Ideal S1x1024 .f32) (k : Fin 1024) (hk : amOf x = BitVec.ofNat 32 k.val) (j : Fin 1024) :
    k0_pay7 x (ix2 0 j) = if j = k then (-1 : EReal) else x (ix2 0 j) := by
  unfold amOf at hk
  have hk' : k0_pay5 x (ix3 0 0 0) = BitVec.ofNat 32 k.val := by
    refine Eq.trans ?_ hk
    pointwise
  pointwise [k0_pay7]
  rw [hk', select_eq, neg_one_bits]
  simp only [cmpi_eq_one, ofNat_inj (show j.val < 4294967296 by omega) (show k.val < 4294967296 by omega), Fin.ext_iff]

end Cert.Proof.KernelIdeal

end
-- ==== Proof.KSel.lean ====
module

public import proofs.«01_k».proof.Proof.KNms

@[expose] public section

set_option maxRecDepth 16384

noncomputable section

namespace Cert.Proof.KernelIdeal

open Cert.KernelIdeal Cert.KernelIdeal.Gen
open Idealize.ShloMosaic Idealize.ShloMosaic.TcCoe
open Cert.Proof.Boxes Cert.Proof.Picks
open scoped Classical

/-! ### The selection takes the picks of the final scores -/

theorem sel_picks (a : FVec Ideal S1x1024 .f32) (s : ℕ → EReal) (ha : ∀ j : Fin 1024, a (ix2 0 j) = s j.val) (h0 : ∀ j < 1024, 0 ≤ s j) :
    ∀ k, k ≤ 100 → ∃ q : ℕ → ℕ, IsPicks 1024 s k q
      ∧ (∀ l < k, amOf (selAcc a l) = BitVec.ofNat 32 (q l) ∧ k0_pay4 (selAcc a l) = s (q l))
      ∧ ∀ j : Fin 1024, ((∃ l < k, q l = j.val) → selAcc a k (ix2 0 j) = (-1 : EReal))
        ∧ ((∀ l < k, q l ≠ j.val) → selAcc a k (ix2 0 j) = s j.val)
  | 0, _ => ⟨fun _ => 0, fun j hj => absurd hj (Nat.not_lt_zero _), fun l hl => absurd hl (Nat.not_lt_zero _),
      fun j => ⟨fun ⟨_, hl, _⟩ => absurd hl (Nat.not_lt_zero _), fun _ => ha j⟩⟩
  | k + 1, hk => by
    obtain ⟨q, hp, hq, hs⟩ := sel_picks a s ha h0 k (by omega)
    obtain ⟨m, hm, ham, hmin⟩ := amOf_spec (selAcc a k)
    have hle := (pay4_spec (selAcc a k)).1
    have hneg : (-1 : EReal) < 0 := by
      rw [← EReal.coe_one, ← EReal.coe_neg, ← EReal.coe_zero]; exact EReal.coe_lt_coe_iff.2 (by norm_num)
    obtain ⟨i, hi, hn⟩ : ∃ i < 1024, ∀ l < k, q l ≠ i := by
      by_contra hno
      push Not at hno
      have hsub : Finset.range 1024 ⊆ (Finset.range k).image q := fun i hi => by
        obtain ⟨l, hl, e⟩ := hno i (Finset.mem_range.1 hi)
        exact Finset.mem_image.2 ⟨l, Finset.mem_range.2 hl, e⟩
      have e1 := Finset.card_le_card hsub
      have e2 := Finset.card_image_le (s := Finset.range k) (f := q)
      rw [Finset.card_range] at e1 e2
      omega
    have hpos : (0 : EReal) ≤ k0_pay4 (selAcc a k) :=
      (h0 i hi).trans (((hs ⟨i, hi⟩).2 hn) ▸ hle ⟨i, hi⟩)
    have hun : ∀ l < k, q l ≠ m.val := fun l hl e => by
      have h1 := (hs m).1 ⟨l, hl, e⟩
      rw [hm] at h1
      rw [h1] at hpos
      exact absurd hneg (not_lt.2 hpos)
    have hsm : s m.val = k0_pay4 (selAcc a k) := by rw [← (hs m).2 hun, hm]
    have hlt : ∀ l, l < k → Function.update q k m.val l = q l := fun l hl => Function.update_of_ne hl.ne _ _
    have hsucc : selAcc a (k + 1) = k0_pay7 (selAcc a k) := rfl
    refine ⟨Function.update q k m.val, hp.snoc _ m.isLt hun fun i hi hl => ?_, fun l hl => ?_, fun j => ⟨?_, fun hl => ?_⟩⟩
    · have h1 := (hs ⟨i, hi⟩).2 hl
      have h2 := hle ⟨i, hi⟩
      rw [h1] at h2
      rw [hsm]
      rcases h2.lt_or_eq with h3 | h3
      · exact .inl h3
      · exact .inr ⟨h3, hmin ⟨i, hi⟩ (h1.trans h3)⟩
    · by_cases hlk : l < k
      · rw [hlt l hlk]; exact hq l hlk
      · obtain rfl : l = k := by omega
        rw [Function.update_self]
        exact ⟨ham, hsm.symm⟩
    · rintro ⟨l, hl, e⟩
      rw [hsucc, pay7_apply _ m ham]
      by_cases hj : j = m
      · rw [if_pos hj]
      · rw [if_neg hj]
        have hlk : l < k := by
          by_contra hlk
          obtain rfl : l = k := by omega
          rw [Function.update_self] at e
          exact hj (Fin.ext e.symm)
        rw [hlt l hlk] at e
        exact (hs j).1 ⟨l, hlk, e⟩
    · have hjm : j ≠ m := fun e => hl k (by omega) (by rw [Function.update_self, e])
      rw [hsucc, pay7_apply _ m ham, if_neg hjm]
      exact (hs j).2 fun l hlk => by rw [← hlt l hlk]; exact hl l (by omega)

theorem boxAt_apply (hL : LaneOk Ideal) (f8 : C8 Ideal) (acc : FVec Ideal S1x1024 .f32) (m : Fin 1024) (h : amOf acc = BitVec.ofNat 32 m.val)
    (d : Fin 4) : boxAt hL f8 acc d = (f8 : S1024x4.Idx → EReal) (ix2 m d) := by
  have e : (amOf acc).toNat = m.val := by rw [h]; exact toNat_small _ (by omega)
  unfold boxAt
  refine congrArg (f8 : S1024x4.Idx → EReal) (funext fun a => Fin.ext ?_)
  fin_cases a
  · show k0_off6 (amOf acc) 0 + 1 * 0 = m.val
    simp [k0_off6, Scalar.indexCast, e]
  · show k0_off6 (amOf acc) 1 + 1 * d.val = d.val
    simp [k0_off6]

/-! ### The kernel's results from its three inputs -/

/-- The packed anchors' deltas and anchors, by row. -/
def dF (f1 : C1 Ideal) (r : ℕ) (k : Fin 4) : EReal := an f1 r ⟨k.val, by omega⟩
def aF (f1 : C1 Ideal) (r : ℕ) (k : Fin 4) : EReal := an f1 r ⟨4 + k.val, by omega⟩

/-- The scores the selection starts from. -/
def sel0 (s7 : C7 Ideal) : FVec Ideal S1x1024 .f32 :=
  k0_pay3 (nmsSt (ovl s7) k0_pay1 k0_t1_loop.trips)
    (View.readAt (Elt Ideal) M7.view (Rect.unit (s := S1024x16) ![0, 8] S1024x1.size inb_S1024x16_S1024x1_0_8).toLoadRect s7)

theorem sel0_apply (s7 : C7 Ideal) (j : Fin 1024) :
    sel0 s7 (ix2 0 j) = if kept (ovN (ovl s7)) 1000 j.val then pk s7 j 8 else 0 := by
  have hr : ∀ v : Vec Ideal S1024x1 .f32, v (ix2 j 0) = pk s7 j 8 → k0_pay3 (nmsSt (ovl s7) k0_pay1 k0_t1_loop.trips) v (ix2 0 j)
      = if kept (ovN (ovl s7)) 1000 j.val then pk s7 j 8 else 0 := fun v hv => by
    pointwise [k0_pay3]
    rw [nms_end, hv]
    split
    · rw [one_mul]
    · rw [zero_mul]
  refine hr _ ?_
  unfold pk
  refine congrArg (s7 : S1024x16.Idx → EReal) (funext fun a => Fin.ext ?_)
  fin_cases a
  · show 0 + 1 * j.val = j.val; omega
  · rfl

theorem picks0_score (i : Fin 1024) : pk (picks0 Ideal) i 8 = 0 := by
  unfold pk picks0
  show k0_pay167 (k0_pay166 (F := Ideal)) (ix2 i 8) = (0 : EReal)
  pointwise [k0_pay167, k0_pay166]
  rw [select_eq, if_neg (by decide)]

theorem scoreV_nonneg (a b : EReal) : 0 ≤ scoreV a b := by
  unfold scoreV
  split
  · next h =>
    refine le_trans ?_ h.le
    simp [Ideal.ofBits, Ideal.ieee]
    rw [← EReal.coe_mul]
    exact_mod_cast (by positivity)
  · exact le_rfl

theorem kernel_value (f0 : C0 Ideal) (f1 : C1 Ideal) (f2 : C2 Ideal) (p : ℕ → ℕ) (σ : WSt Ideal) (h : Inv (kS f0 f2) f1 1000 p σ) (hL : LaneOk Ideal) :
    ∃ q : ℕ → ℕ, IsPicks 1000 (final (flat (kS f0 f2)) (dF f1) (aF f1) p) 100 q
      ∧ (∀ (k : Fin 100) (d : Fin 4), boxAt hL (bxs σ.s7) (selAcc (sel0 σ.s7) k.val) d = box (dF f1 (p (q k.val) / 80)) (aF f1 (p (q k.val) / 80)) d)
      ∧ ∀ k : Fin 100, k0_pay4 (selAcc (sel0 σ.s7) k.val) = final (flat (kS f0 f2)) (dF f1) (aF f1) p (q k.val) := by
  have hd : ∀ i : Fin 1024, i.val < 1000 → dl σ.s7 i = dF f1 (p i.val / 80) := fun i hi => funext fun k => by
    unfold dl dF
    exact h.anc i hi ⟨k.val, by omega⟩
  have ha : ∀ i : Fin 1024, i.val < 1000 → anc4 σ.s7 i = aF f1 (p i.val / 80) := fun i hi => funext fun k => by
    unfold anc4 aF
    exact h.anc i hi ⟨4 + k.val, by omega⟩
  have hmv : ∀ i : Fin 1024, i.val < 1000 → mvK σ.s7 i = cand (dF f1) (aF f1) p i.val := fun i hi => by
    unfold mvK cand
    rw [hd i hi, ha i hi, h.lab i hi]
    rfl
  have hkept : ∀ j < 1000, kept (ovN (ovl σ.s7)) 1000 j ↔ kept (fun i j => iou (cand (dF f1) (aF f1) p i) (cand (dF f1) (aF f1) p j)) 1000 j := by
    intro j hj
    refine kept_congr _ _ 1000 (fun i hi j hj => ?_) 1000 le_rfl j hj
    unfold ovN
    rw [dif_pos ⟨by omega, by omega⟩, ovl_apply, hmv _ hi, hmv _ hj]
  let s : ℕ → EReal := fun j => if j < 1000 then final (flat (kS f0 f2)) (dF f1) (aF f1) p j else 0
  have hs : ∀ j : Fin 1024, sel0 σ.s7 (ix2 0 j) = s j.val := fun j => by
    rw [sel0_apply]
    show _ = if j.val < 1000 then final (flat (kS f0 f2)) (dF f1) (aF f1) p j.val else 0
    by_cases hj : j.val < 1000
    · rw [if_pos hj]
      unfold final
      rw [h.score j hj]
      exact if_congr (hkept j.val hj) rfl rfl
    · rw [if_neg hj, h.rest j (by omega), picks0_score, ite_self]
  have hs0 : ∀ j < 1024, 0 ≤ s j := fun j _ => by
    show 0 ≤ if j < 1000 then final (flat (kS f0 f2)) (dF f1) (aF f1) p j else 0
    unfold final flat kS
    split
    · split
      · exact scoreV_nonneg _ _
      · exact le_rfl
    · exact le_rfl
  obtain ⟨q, hq, hv, -⟩ := sel_picks (sel0 σ.s7) s hs hs0 100 le_rfl
  have hq' := (hq.restrict (M := 1000) (by omega) (by omega) hs0 fun i hi _ => if_neg (by omega)).congr
    (s' := final (flat (kS f0 f2)) (dF f1) (aF f1) p) fun i hi => if_pos hi
  refine ⟨q, hq', fun k d => ?_, fun k => ?_⟩
  · have hlt := (hq' k.val k.isLt).1
    rw [boxAt_apply hL _ _ ⟨q k.val, by omega⟩ (hv k.val k.isLt).1, bxs_apply]
    unfold bxK
    rw [hd _ hlt, ha _ hlt]
  · rw [(hv k.val k.isLt).2]
    exact if_pos (hq' k.val k.isLt).1

end Cert.Proof.KernelIdeal

end
-- ==== Proof.KOut.lean ====
/-
  The kernel's result, entry by entry, and what the pipeline fetches in terms of the arguments.
-/
module

public import proofs.«01_k».proof.Proof.KFrame
public import proofs.«01_k».proof.Proof.KSel
public import Idealize.ShloMosaic.Lib.StableHlo.ReadAt
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo
open Cert.Proof.Boxes Cert.Proof.Picks
open Pipeline (Dat Cfg)

variable (m : (ℓ : Loc nD τ sig) → Buf (Elt Ideal) ℓ) (hR : RowsOk Ideal) (hL : LaneOk Ideal) (c : Dev nD)

/-! ### The inputs fetched -/

theorem in0_at (r : Fin 20000) (k : Fin 80) :
    (in0 m c : S20000x80.Idx → EReal) (ix2 r k) = (m ((c.tc : Thread nD τ).loc main_arg0) : S20000x80.Idx → EReal) (ix2 r k) := by
  unfold in0
  rw [V1_keep m c main_arg0 (by decide) (by decide)]
  refine congrArg (m ((c.tc : Thread nD τ).loc main_arg0) : S20000x80.Idx → EReal) (funext fun a => Fin.ext ?_)
  fin_cases a
  · show 0 * 20000 + 1 * r.val = r.val; omega
  · show 0 * 80 + 1 * k.val = k.val; omega

theorem in1_eq (r : Fin 20000) (j : Fin 8) :
    (in1 m c : S20000x8.Idx → EReal) (ix2 r j) = (V1 m c (Proc.devRef .tc main_v0) : S20000x8.Idx → EReal) (ix2 r j) := by
  unfold in1
  refine congrArg (V1 m c (Proc.devRef .tc main_v0) : S20000x8.Idx → EReal) (funext fun a => Fin.ext ?_)
  fin_cases a
  · show 0 * 20000 + 1 * r.val = r.val; omega
  · show 0 * 8 + 1 * j.val = j.val; omega

theorem in2_eq (r : Fin 40) (j : Fin 500) :
    (in2 m c : S40x500.Idx → EReal) (ix2 r j) = (V1 m c (Proc.devRef .tc main_v1) : S40x500.Idx → EReal) (ix2 r j) := by
  unfold in2
  refine congrArg (V1 m c (Proc.devRef .tc main_v1) : S40x500.Idx → EReal) (funext fun a => Fin.ext ?_)
  fin_cases a
  · show 0 * 40 + 1 * r.val = r.val; omega
  · show 0 * 500 + 1 * j.val = j.val; omega

theorem cat8_at (a b : S20000x4.Idx → EReal) (h : Shape.Concatenates [S20000x4, S20000x4] S20000x8 1) (r : Fin 20000) (d : Fin 8) :
    (concatenate S20000x8 1 [⟨S20000x4, a⟩, ⟨S20000x4, b⟩] h : S20000x8.Idx → EReal) (ix2 r d)
      = if h : d.val < 4 then a (ix2 r ⟨d.val, h⟩) else b (ix2 r ⟨d.val - 4, by omega⟩) := by
  fin_cases d <;> pointwise

theorem v0_at (r : Fin 20000) (d : Fin 8) :
    ((V1 m c (Proc.devRef .tc main_v0) : S20000x8.Idx → EReal) (ix2 r d) : EReal)
      = if h : d.val < 4 then (m ((c.tc : Thread nD τ).loc main_arg1) : S20000x4.Idx → EReal) (ix2 r ⟨d.val, h⟩)
        else (m ((c.tc : Thread nD τ).loc main_arg3) : S20000x4.Idx → EReal) (ix2 r ⟨d.val - 4, by omega⟩) := by
  unfold V1
  after_reads_simp
  exact cat8_at _ _ _ r d

theorem v1_at (r : Fin 40) (j : Fin 500) :
    ((V1 m c (Proc.devRef .tc main_v1) : S40x500.Idx → EReal) (ix2 r j) : EReal)
      = (m ((c.tc : Thread nD τ).loc main_arg2) : S20000.Idx → EReal) (ix1 ⟨500 * r.val + j.val, by omega⟩) := by
  unfold V1
  after_reads_simp
  pointwise
  refine congrArg (m ((c.tc : Thread nD τ).loc main_arg2) : S20000.Idx → EReal) (congrArg ix1 (Fin.ext ?_))
  show r.val * 500 + j.val = 500 * r.val + j.val
  omega

theorem flat_kS (r : Fin 20000) (k : Fin 80) :
    flat (kS (in0 m c) (in2 m c)) (r.val * 80 + k.val)
      = scoreV ((m ((c.tc : Thread nD τ).loc main_arg0) : S20000x80.Idx → EReal) (ix2 r k)) ((m ((c.tc : Thread nD τ).loc main_arg2) : S20000.Idx → EReal) (ix1 r)) := by
  unfold flat kS cls ctr
  rw [show (r.val * 80 + k.val) / 80 = r.val by omega, show (r.val * 80 + k.val) % 80 = k.val by omega,
    dif_pos ⟨r.isLt, k.isLt⟩, dif_pos r.isLt, in0_at, in2_eq, v1_at]
  congr 2
  refine congrArg ix1 (Fin.ext ?_)
  show 500 * (r.val / 500) + r.val % 500 = r.val
  omega

theorem dF_at (r : Fin 20000) (k : Fin 4) :
    dF (in1 m c) r.val k = (m ((c.tc : Thread nD τ).loc main_arg1) : S20000x4.Idx → EReal) (ix2 r k) := by
  unfold dF an
  rw [dif_pos r.isLt, in1_eq, v0_at, dif_pos k.isLt]

theorem aF_at (r : Fin 20000) (k : Fin 4) :
    aF (in1 m c) r.val k = (m ((c.tc : Thread nD τ).loc main_arg3) : S20000x4.Idx → EReal) (ix2 r k) := by
  unfold aF an
  rw [dif_pos r.isLt, in1_eq, v0_at, dif_neg (show ¬ 4 + k.val < 4 by omega)]
  refine congrArg (m ((c.tc : Thread nD τ).loc main_arg3) : S20000x4.Idx → EReal) (congrArg (ix2 r) (Fin.ext ?_))
  show 4 + k.val - 4 = k.val
  omega

/-! ### The result -/

theorem arr3 : (dats m hR hL 0 c).arrAt (3 : Fin 5) (cfgs (F := Ideal) 0).N = out3 m hR hL c := by
  refine Dat.arrAt_eq_of_after_last (dats m hR hL 0 c) (3 : Fin 5) t0_0 (by decide +kernel) _ fun j => ?_
  rw [after_3]
  generalize out3 m hR hL c = G
  refine congrArg (G : S100x4.Idx → EReal) (funext fun a => Fin.ext ?_)
  fin_cases a
  · rfl
  · rfl

theorem arr4 : (dats m hR hL 0 c).arrAt (4 : Fin 5) (cfgs (F := Ideal) 0).N = out4 m hR hL c := by
  refine Dat.arrAt_eq_of_after_last (dats m hR hL 0 c) (4 : Fin 5) t0_0 (by decide +kernel) _ fun j => ?_
  rw [after_4]
  generalize out4 m hR hL c = G
  refine congrArg (G : S100x1.Idx → EReal) (funext fun a => Fin.ext ?_)
  fin_cases a
  · rfl
  · rfl

theorem cat2_at (a : S100x4.Idx → EReal) (b : S100x1.Idx → EReal) (h : Shape.Concatenates [S100x4, S100x1] S100x5 1) (k : Fin 100) (d : Fin 5) :
    (concatenate S100x5 1 [⟨S100x4, a⟩, ⟨S100x1, b⟩] h : S100x5.Idx → EReal) (ix2 k d)
      = if h : d.val < 4 then a (ix2 k ⟨d.val, h⟩) else b (ix2 k 0) := by
  fin_cases d <;> pointwise

theorem v3_at (k : Fin 100) (d : Fin 5) :
    ((VE m hR hL c main_v3 : S100x5.Idx → EReal) (ix2 k d) : EReal)
      = if h : d.val < 4 then boxAt hL (selIn m hR hL c).1 (selAcc (selIn m hR hL c).2 k.val) ⟨d.val, h⟩
        else k0_pay4 (selAcc (selIn m hR hL c).2 k.val) := by
  have e3 : Pipeline.withArrays spec0 c (V1 m c) (fun w => (dats m hR hL 0 c).arrAt w (cfgs (F := Ideal) 0).N) (Proc.devRef .tc main_v2_0) = out3 m hR hL c :=
    (Pipeline.withArrays_arr spec0 (launch0 (F := Ideal)).win.arr_inj c (V1 m c) _ (3 : Fin 5)).trans (arr3 m hR hL c)
  have e4 : Pipeline.withArrays spec0 c (V1 m c) (fun w => (dats m hR hL 0 c).arrAt w (cfgs (F := Ideal) 0).N) (Proc.devRef .tc main_v2_1) = out4 m hR hL c :=
    (Pipeline.withArrays_arr spec0 (launch0 (F := Ideal)).win.arr_inj c (V1 m c) _ (4 : Fin 5)).trans (arr4 m hR hL c)
  unfold VE Pipeline.afterTail₀
  show (StableHlo.after hostOps1 (Pipeline.withArrays spec0 c (V1 m c) (fun w => (dats m hR hL 0 c).arrAt w (cfgs (F := Ideal) 0).N)) (Proc.devRef .tc main_v3) : S100x5.Idx → EReal) (ix2 k d) = _
  revert e3 e4
  generalize Pipeline.withArrays spec0 c (V1 m c) (fun w => (dats m hR hL 0 c).arrAt w (cfgs (F := Ideal) 0).N) = U
  intro e3 e4
  after_reads_simp
  refine (cat2_at _ _ _ k d).trans ?_
  by_cases h : d.val < 4
  · rw [dif_pos h, dif_pos h]
    refine (congrFun e3 _).trans ?_
    unfold out3 boxOut
    rfl
  · rw [dif_neg h, dif_neg h]
    refine (congrFun e4 _).trans ?_
    unfold out4 scoreOut
    show k0_pay6 (selAcc (selIn m hR hL c).2 k.val) (ix2 0 0) = _
    pointwise [k0_pay6]

/-- What the body leaves to the selection, in terms of the picks' records. -/
theorem body_val (f0 : C0 Ideal) (f1 : C1 Ideal) (f2 : C2 Ideal) (n : ℕ) (hn : n = 1000) : (body_run hR hL f0 f1 f2).1
    = (bxs (wrun body_run.sl.v840 body_run.sl.v841 f1 n (start f0 f2)).s7, sel0 (wrun body_run.sl.v840 body_run.sl.v841 f1 n (start f0 f2)).s7) := by
  unfold body_run start scores0
  dsimp only
  generalize (1000 : ℕ) = fuel at *
  subst hn
  have key : ∀ s7 : C7 Ideal, (M8.view.writes (Elt Ideal) M8.view.junk (body_run.sl.H8_1 s7),
      k0_pay3 (nmsSt (M9.view.writes (Elt Ideal) M9.view.junk (body_run.sl.H9_8 s7)) k0_pay1 (Scf.trips (0#32) (Scalar.addi 0#32 125#32) 1#32))
        (View.readAt (Elt Ideal) M7.view (Rect.unit (s := S1024x16) ![0, 8] S1024x1.size inb_S1024x16_S1024x1_0_8).toLoadRect s7))
      = (bxs s7, sel0 s7) := fun s7 => by unfold bxs sel0 ovl; rfl
  exact key _

set_option maxHeartbeats 4000000 in
/-- The kernel's result, in terms of the picks. -/
theorem kernel_out (hex : ∀ n < 1000, ∀ p : ℕ → ℕ, ∃ i < 1600000, 0 < flat (kS (in0 m c) (in2 m c)) i ∧ ∀ l < n, p l ≠ i) :
    ∃ p q : ℕ → ℕ, IsPicks 1600000 (flat (kS (in0 m c) (in2 m c))) 1000 p
      ∧ IsPicks 1000 (final (flat (kS (in0 m c) (in2 m c))) (dF (in1 m c)) (aF (in1 m c)) p) 100 q
      ∧ ∀ (k : Fin 100) (d : Fin 5), ((VE m hR hL c main_v3 : S100x5.Idx → EReal) (ix2 k d) : EReal)
        = if h : d.val < 4 then box (dF (in1 m c) (p (q k.val) / 80)) (aF (in1 m c) (p (q k.val) / 80)) ⟨d.val, h⟩
          else final (flat (kS (in0 m c) (in2 m c))) (dF (in1 m c)) (aF (in1 m c)) p (q k.val) := by
  obtain ⟨p, hp⟩ := picks_made (in0 m c) (in1 m c) (in2 m c) hex
  have hsel := body_val hR hL (in0 m c) (in1 m c) (in2 m c) 1000 rfl
  rw [show (body_run hR hL (in0 m c) (in1 m c) (in2 m c)).1 = selIn m hR hL c from rfl] at hsel
  revert hp hsel
  generalize wrun body_run.sl.v840 body_run.sl.v841 (in1 m c) 1000 (start (in0 m c) (in2 m c)) = σ
  intro hp hsel
  obtain ⟨q, hq, hb, hs⟩ := kernel_value (in0 m c) (in1 m c) (in2 m c) p σ hp hL
  have h1 : (selIn m hR hL c).1 = bxs σ.s7 := congrArg Prod.fst hsel
  have h2 : (selIn m hR hL c).2 = sel0 σ.s7 := congrArg Prod.snd hsel
  refine ⟨p, q, hp.picks, hq, fun k d => (v3_at m hR hL c k d).trans ?_⟩
  rw [h1, h2]
  by_cases h : d.val < 4
  · rw [dif_pos h, dif_pos h]; exact hb k ⟨d.val, h⟩
  · rw [dif_neg h, dif_neg h]; exact hs k

end Cert.Proof.KernelIdeal

end
-- ==== Proof.Enough.lean ====
/-
  What the precondition says: more than 999 positive scores.
-/
module

public import proofs.«01_k».proof.Pre_enough_candidates
public import proofs.«01_k».proof.Proof.Gen.Pre_enough_candidates
public import proofs.«01_k».proof.Proof.Picks
public import proofs.«01_k».proof.Proof.BoxFns
public import Idealize.ShloMosaic.Lib.Pointwise

@[expose] public section

set_option maxRecDepth 16384

noncomputable section

namespace Cert.Proof.Enough

open Idealize.ShloMosaic
open Cert.Pre_enough_candidates Cert.Pre_enough_candidates.Gen
open Cert.Proof.Boxes Cert.Proof.Picks

variable [Cert.Pre_enough_candidates.Facts]

/-- Of fewer than a thousand picks there is always a positive score not picked. -/
theorem exists_left (a0 : FVec Ideal S20000x80 .f32) (a1 : FVec Ideal S20000x4 .f32) (a2 : FVec Ideal S20000 .f32) (a3 : FVec Ideal S20000x4 .f32)
    (s : ℕ → EReal) (hs : ∀ (r : Fin 20000) (k : Fin 80), s (r.val * 80 + k.val) = scoreV (a0 (ix2 r k)) (a2 (ix1 r)))
    (h : ∀ j : Fin 1000, fn (F := Ideal) a0 a1 a2 a3 (ix1 j) = 1#1) (n : ℕ) (hn : n < 1000) (p : ℕ → ℕ) :
    ∃ i < 1600000, 0 < s i ∧ ∀ l < n, p l ≠ i := by
  unfold fn fn_part1 at h
  have key : ∃ x : FVec Ideal S1600000 .f32, (∀ i : Fin 1600000, s i.val = x (ix1 i))
      ∧ ∀ j : Fin 1000, cmpf .ogt (Host.topK S1000 0 (FloatOps.cmpfTotal (F := Ideal) (φ := .f32) .gt) x Facts.sliceFits_S1600000_S1000).1
        (broadcastInDim S1000 ![] Facts.bcast_S_S1000 (constant (F := Ideal) S_ .f32 0x00000000#32)) (ix1 j) = 1#1 := by
    refine ⟨shapeCast S1600000 (fn_where (F := Ideal) _ _ _) Facts.shapeCasts_S20000x80_S1600000, fun i => ?_, h⟩
    have e : s i.val = scoreV (a0 (ix2 ⟨i.val / 80, by omega⟩ ⟨i.val % 80, by omega⟩)) (a2 (ix1 ⟨i.val / 80, by omega⟩)) := by
      rw [← hs]
      exact congrArg s (by show i.val = i.val / 80 * 80 + i.val % 80; omega)
    rw [e]
    unfold fn_where
    simp only [id_eq]
    pointwise
    unfold scoreV Ideal.logistic
    refine if_congr Iff.rfl rfl ?_
    simp [constant, Ideal.ofBits, Ideal.ieee]
  obtain ⟨x, hx, hj⟩ := key
  refine exists_pos 1000 (by norm_num) x s hx Facts.sliceFits_S1600000_S1000 (fun j => ?_) n hn p
  have h1 := hj j
  revert h1
  pointwise
  intro h1
  by_contra h2
  simp [h2] at h1

end Cert.Proof.Enough

end
-- ==== Proof.RRun.lean ====
module

public import proofs.«01_k».proof.Proof.Gen.ReferenceIdeal.Run
public import Idealize.ShloMosaic.Adequacy
public import Idealize.ShloMosaic.Init

@[expose] public section

set_option maxRecDepth 4096

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

variable (m : (ℓ : Loc nD τ sig) → Buf (Elt F) ℓ)

abbrev hostOps0_3_W : List (Ref sig .tc) := [main_cst_24]
abbrev hostOps0_4_W : List (Ref sig .tc) := [main_call3_v0, main_call3_v1, main_v144]
abbrev hostOps0_5_W : List (Ref sig .tc) := [main_values_25, main_indices_26, main_v145, main_v146, main_v147, main_v148]

/-- What the operations before the loop write. -/
theorem entry_keep (c : Dev nD) (b : Ref sig .tc) (h : b ∉ hostOps0_W ++ hostOps0_1_W ++ hostOps0_2_W) :
    entryContents preI m c (Proc.devRef .tc b) = m ((c.tc : Thread nD τ).loc b) := by
  simp only [List.mem_append, not_or] at h
  show after hostOps0_2 (after hostOps0_1 (after hostOps0 fun b => m (c, b))) _ = _
  rw [after_of_writes_sub _ _ hostOps0_2_writes h.2, after_of_writes_sub _ _ hostOps0_1_writes h.1.2,
    after_of_writes_sub _ _ hostOps0_writes h.1.1]

/-- What one trip writes. -/
theorem trip_keep (V : Valuation τ sig (Elt F)) (b : Ref sig .tc)
    (h : b ∉ while0Ops0_W ++ while0Ops0_1_W ++ while0Ops0_2_W ++ while0Ops0_3_W ++ condOps_W) :
    afterL bodyI (after condOps V) (Proc.devRef .tc b) = V (Proc.devRef .tc b) := by
  simp only [List.mem_append, not_or] at h
  show after while0Ops0_3 (after while0Ops0_2 (after while0Ops0_1 (after while0Ops0 (after condOps V)))) _ = _
  rw [after_of_writes_sub _ _ while0Ops0_3_writes h.1.2, after_of_writes_sub _ _ while0Ops0_2_writes h.1.1.2,
    after_of_writes_sub _ _ while0Ops0_1_writes h.1.1.1.2, after_of_writes_sub _ _ while0Ops0_writes h.1.1.1.1,
    after_of_writes_sub _ _ condOps_writes h.2]

theorem atK_keep (c : Dev nD) (b : Ref sig .tc)
    (h : b ∉ while0Ops0_W ++ while0Ops0_1_W ++ while0Ops0_2_W ++ while0Ops0_3_W ++ condOps_W) :
    ∀ k, atK m k c (Proc.devRef .tc b) = entryContents preI m c (Proc.devRef .tc b)
  | 0 => rfl
  | k + 1 => (trip_keep _ b h).trans (atK_keep c b h k)

/-- The contents after the loop, the test that ends it run. -/
def V2 (c : Dev nD) : Valuation τ sig (Elt F) := after condOps (atK m 1000 c)

theorem V2_keep (c : Dev nD) (b : Ref sig .tc)
    (h : b ∉ while0Ops0_W ++ while0Ops0_1_W ++ while0Ops0_2_W ++ while0Ops0_3_W ++ condOps_W) :
    V2 m c (Proc.devRef .tc b) = entryContents preI m c (Proc.devRef .tc b) := by
  unfold V2
  rw [after_of_writes_sub _ _ condOps_writes (by simp only [List.mem_append, not_or] at h; exact h.2)]
  exact atK_keep m c b h 1000

theorem final_keep (c : Dev nD) (b : Ref sig .tc) (h : b ∉ hostOps0_3_W ++ hostOps0_4_W ++ hostOps0_5_W) :
    finalContents condOps preI bodyI postI 1000 m c (Proc.devRef .tc b) = V2 m c (Proc.devRef .tc b) := by
  simp only [List.mem_append, not_or] at h
  show after hostOps0_5 (after hostOps0_4 (after hostOps0_3 (V2 m c))) _ = _
  rw [after_unwritten hostOps0_5_W rfl h.2, after_unwritten hostOps0_4_W rfl h.1.2, after_unwritten hostOps0_3_W rfl h.1.1]

theorem arg_keep (c : Dev nD) (b : Ref sig .tc) (h : b ∉ hostOps0_3_W ++ hostOps0_4_W ++ hostOps0_5_W)
    (h1 : b ∉ while0Ops0_W ++ while0Ops0_1_W ++ while0Ops0_2_W ++ while0Ops0_3_W ++ condOps_W)
    (h2 : b ∉ hostOps0_W ++ hostOps0_1_W ++ hostOps0_2_W) :
    finalContents condOps preI bodyI postI 1000 m c (Proc.devRef .tc b) = m ((c.tc : Thread nD τ).loc b) :=
  (final_keep m c b h).trans ((V2_keep m c b h1).trans (entry_keep m c b h2))

/-- The reference runs; its arguments end as they began, its result is the last fold read at the result. -/
theorem run_ref (g : Dev nD → PrngReg) :
    θ_run (defs (F := F)) (onTc (τ := τ) (main (F := F))) ⟨m, fun _ => 0, g⟩ fun r => ∀ c : Dev nD,
      r.2.mem ((c.tc : Thread nD τ).loc main_v148) = finalContents condOps preI bodyI postI 1000 m c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨h c main_v148 rfl,
    (h c main_arg0 rfl).trans (arg_keep m c _ (by decide) (by decide) (by decide)),
    (h c main_arg1 rfl).trans (arg_keep m c _ (by decide) (by decide) (by decide)),
    (h c main_arg2 rfl).trans (arg_keep m c _ (by decide) (by decide) (by decide)),
    (h c main_arg3 rfl).trans (arg_keep m c _ (by decide) (by decide) (by decide))⟩) (run_fold m g)

theorem quiescent (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2, Idealize.ShloMosaic.sem_eq_zero_of_no_sems (by decide) r.2⟩) (run_ref m g)

end Cert.Proof.ReferenceIdeal

end
-- ==== Proof.RVal.lean ====
module

public import proofs.«01_k».proof.Proof.RRun
public import proofs.«01_k».proof.Proof.Picks
public import proofs.«01_k».proof.Proof.BoxFns
public import Idealize.ShloMosaic.Lib.StableHlo.ReadAt
public import Idealize.ShloMosaic.Lib.Pointwise
public import Idealize.ShloMosaic.Lib.Routing.Ops
public import Idealize.ShloMosaic.Lib.Routing.Words

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Cert.Proof.Boxes Cert.Proof.Picks

variable (V : Valuation τ sig (Elt Ideal))

/-! ### The scores -/

theorem score_at (r : Fin 20000) (c : Fin 80) :
    ((after hostOps0_1 (after hostOps0 V) (Proc.devRef .tc main_v18) : S20000x80.Idx → EReal) (ix2 r c) : EReal)
      = scoreV ((V (Proc.devRef .tc main_arg0) : S20000x80.Idx → EReal) (ix2 r c)) ((V (Proc.devRef .tc main_arg2) : S20000.Idx → EReal) (ix1 r)) := by
  after_reads_at
  unfold scoreV Ideal.logistic
  refine if_congr Iff.rfl rfl ?_
  simp [constant, Ideal.ofBits, Ideal.ieee]

/-! ### The thousand best, and their boxes -/

section Best

variable (s : ℕ → EReal) (p : ℕ → ℕ) (hs : ∀ (r : Fin 20000) (c : Fin 80), s (r.val * 80 + c.val) = (V (Proc.devRef .tc main_v18) : S20000x80.Idx → EReal) (ix2 r c))
  (hp : IsPicks 1600000 s 1000 p)

include hs in
theorem flat_at (i : Fin 1600000) :
    s i.val = (shapeCast S1600000 (V (Proc.devRef .tc main_v18) : S20000x80.Idx → EReal) shapeCasts_S20000x80_S1600000 : S1600000.Idx → EReal) (ix1 i) := by
  pointwise
  rw [← hs]
  exact congrArg s (by show i.val = i.val / 80 * 80 + i.val % 80; omega)

include hs hp

theorem idx_at (j : Fin 1000) :
    ((after hostOps0_2 V (Proc.devRef .tc main_indices) : S1000.Idx → BitVec 32) (ix1 j) : BitVec 32) = BitVec.ofNat 32 (p j.val) := by
  after_reads_simp
  exact topK_snd_picks 1000 (by norm_num) _ s (flat_at V s hs) _ p hp j

theorem val_at (j : Fin 1000) :
    ((after hostOps0_2 V (Proc.devRef .tc main_values) : S1000.Idx → EReal) (ix1 j) : EReal) = s (p j.val) := by
  after_reads_simp
  exact topK_fst_picks 1000 (by norm_num) _ s (flat_at V s hs) _ p hp j

theorem p_lt (j : Fin 1000) : p j.val < 1600000 := (hp j.val j.isLt).1

theorem row_at (j : Fin 1000) :
    ((after hostOps0_2 V (Proc.devRef .tc main_v24) : S1000x1.Idx → BitVec 32) (ix2 j 0) : BitVec 32) = BitVec.ofNat 32 (p j.val / 80) := by
  have h := idx_at V s p hs hp j
  revert h
  after_reads_simp
  generalize (Host.topK S1000 0 _ _ sliceFits_S1600000_S1000).2 = I
  intro h
  pointwise
  rw [show I (ix1 j) = _ from h]
  exact Routing.divsi_word .host (by have := p_lt V s p hs hp j; omega) (by norm_num) (by norm_num)

theorem cls_at (j : Fin 1000) :
    ((after hostOps0_2 V (Proc.devRef .tc main_v23) : S1000.Idx → BitVec 32) (ix1 j) : BitVec 32) = BitVec.ofNat 32 (p j.val % 80) := by
  have h := idx_at V s p hs hp j
  revert h
  after_reads_simp
  generalize (Host.topK S1000 0 _ _ sliceFits_S1600000_S1000).2 = I
  intro h
  pointwise
  rw [show I (ix1 j) = _ from h]
  exact Routing.remsi_word .host (by have := p_lt V s p hs hp j; omega) (by norm_num) (by norm_num)

/-- The row of the `j`-th best. -/
def rowOf (j : Fin 1000) : Fin 20000 := ⟨p j.val / 80, by have := p_lt V s p hs hp j; omega⟩

theorem delta_at (j : Fin 1000) (k : Fin 4) :
    ((after hostOps0_2 V (Proc.devRef .tc main_v25) : S1000x4.Idx → EReal) (ix2 j k) : EReal)
      = (V (Proc.devRef .tc main_arg1) : S20000x4.Idx → EReal) (ix2 (rowOf V s p hs hp j) k) := by
  have h := row_at V s p hs hp j
  revert h
  after_reads_simp
  exact fun h => Routing.gather_row gather_S20000x4_S1000x1_S1000x4_1_0_n_n_0_1_14 rfl rfl rfl rfl rfl _ _ j k (rowOf V s p hs hp j) h (by norm_num)

theorem anchor_at (j : Fin 1000) (k : Fin 4) :
    ((after hostOps0_2 V (Proc.devRef .tc main_v27) : S1000x4.Idx → EReal) (ix2 j k) : EReal)
      = (V (Proc.devRef .tc main_arg3) : S20000x4.Idx → EReal) (ix2 (rowOf V s p hs hp j) k) := by
  have h := row_at V s p hs hp j
  revert h
  after_reads_simp
  exact fun h => Routing.gather_row gather_S20000x4_S1000x1_S1000x4_1_0_n_n_0_1_14 rfl rfl rfl rfl rfl _ _ j k (rowOf V s p hs hp j) h (by norm_num)

end Best

section Columns

variable (i : Fin 1000) (X Y : S1000x4.Idx → EReal)

theorem col0_at : after hostOps0_2 V (Proc.devRef .tc main_v25) = X → after hostOps0_2 V (Proc.devRef .tc main_v27) = Y →
    (after hostOps0_2 V (Proc.devRef .tc main_v88) : S1000x1.Idx → EReal) (ix2 i 0) = box (fun k => X (ix2 i k)) (fun k => Y (ix2 i k)) 0 := by
  after_reads_simp
  intro hX hY
  rw [hX, hY]
  pointwise
  rfl

theorem col1_at : after hostOps0_2 V (Proc.devRef .tc main_v25) = X → after hostOps0_2 V (Proc.devRef .tc main_v27) = Y →
    (after hostOps0_2 V (Proc.devRef .tc main_v89) : S1000x1.Idx → EReal) (ix2 i 0) = box (fun k => X (ix2 i k)) (fun k => Y (ix2 i k)) 1 := by
  after_reads_simp
  intro hX hY
  rw [hX, hY]
  pointwise
  rfl

theorem col2_at : after hostOps0_2 V (Proc.devRef .tc main_v25) = X → after hostOps0_2 V (Proc.devRef .tc main_v27) = Y →
    (after hostOps0_2 V (Proc.devRef .tc main_v90) : S1000x1.Idx → EReal) (ix2 i 0) = box (fun k => X (ix2 i k)) (fun k => Y (ix2 i k)) 2 := by
  after_reads_simp
  intro hX hY
  rw [hX, hY]
  pointwise
  rfl

theorem col3_at : after hostOps0_2 V (Proc.devRef .tc main_v25) = X → after hostOps0_2 V (Proc.devRef .tc main_v27) = Y →
    (after hostOps0_2 V (Proc.devRef .tc main_v91) : S1000x1.Idx → EReal) (ix2 i 0) = box (fun k => X (ix2 i k)) (fun k => Y (ix2 i k)) 3 := by
  after_reads_simp
  intro hX hY
  rw [hX, hY]
  pointwise
  rfl

theorem cat4_at (a b c d : S1000x1.Idx → EReal) (h : Shape.Concatenates [S1000x1, S1000x1, S1000x1, S1000x1] S1000x4 1) (k : Fin 4) :
    (concatenate S1000x4 1 [⟨S1000x1, a⟩, ⟨S1000x1, b⟩, ⟨S1000x1, c⟩, ⟨S1000x1, d⟩] h : S1000x4.Idx → EReal) (ix2 i k)
      = (![a, b, c, d] k) (ix2 i 0) := by
  fin_cases k <;> pointwise

theorem boxes_at (k : Fin 4) (hX : after hostOps0_2 V (Proc.devRef .tc main_v25) = X) (hY : after hostOps0_2 V (Proc.devRef .tc main_v27) = Y) :
    ((after hostOps0_2 V (Proc.devRef .tc main_v92) : S1000x4.Idx → EReal) (ix2 i k) : EReal) = box (fun k => X (ix2 i k)) (fun k => Y (ix2 i k)) k := by
  have e := after_last_write (ops := hostOps0_2) (i := 89) (r := main_v92) (hostOps0_2_W.drop 90) rfl rfl (by decide) V
  rw [nary4_result'] at e
  rw [e]
  refine (cat4_at i _ _ _ _ _ k).trans ?_
  have e0 : upto hostOps0_2 V 89 (Proc.devRef .tc main_v88) = after hostOps0_2 V (Proc.devRef .tc main_v88) := by after_reads_simp
  have e1 : upto hostOps0_2 V 89 (Proc.devRef .tc main_v89) = after hostOps0_2 V (Proc.devRef .tc main_v89) := by after_reads_simp
  have e2 : upto hostOps0_2 V 89 (Proc.devRef .tc main_v90) = after hostOps0_2 V (Proc.devRef .tc main_v90) := by after_reads_simp
  have e3 : upto hostOps0_2 V 89 (Proc.devRef .tc main_v91) = after hostOps0_2 V (Proc.devRef .tc main_v91) := by after_reads_simp
  fin_cases k
  · exact (congrFun e0 (ix2 i 0)).trans (col0_at V i X Y hX hY)
  · exact (congrFun e1 (ix2 i 0)).trans (col1_at V i X Y hX hY)
  · exact (congrFun e2 (ix2 i 0)).trans (col2_at V i X Y hX hY)
  · exact (congrFun e3 (ix2 i 0)).trans (col3_at V i X Y hX hY)

theorem moved_at (k : Fin 4) (n : ℕ) (hk : (after hostOps0_2 V (Proc.devRef .tc main_v23) : S1000.Idx → BitVec 32) (ix1 i) = BitVec.ofNat 32 n) :
    after hostOps0_2 V (Proc.devRef .tc main_v92) = X →
    ((after hostOps0_2 V (Proc.devRef .tc main_v98) : S1000x4.Idx → EReal) (ix2 i k) : EReal) = X (ix2 i k) + lab n * Ideal.ofBits .f32 0x461C4000#32 := by
  revert hk
  after_reads_simp
  generalize Host.remsi _ _ = I
  intro hk hX
  rw [hX]
  pointwise
  rw [show I (ix1 i) = _ from hk]
  rfl

theorem pair_at (i j : Fin 1000) : after hostOps0_2 V (Proc.devRef .tc main_v98) = X →
    (after hostOps0_2 V (Proc.devRef .tc main_v140) : S1000x1000.Idx → EReal) (ix2 i j) = iou (fun k => X (ix2 i k)) (fun k => X (ix2 j k)) := by
  after_reads_simp
  intro hX
  rw [hX]
  pointwise
  rfl

end Columns

end Cert.Proof.ReferenceIdeal

end
-- ==== Proof.RLoop.lean ====
module

public import proofs.«01_k».proof.Proof.RVal
public import proofs.«01_k».proof.Proof.Picks
public import proofs.«01_k».proof.Proof.BoxFns
public import Idealize.ShloMosaic.Lib.StableHlo.ReadAt
public import Idealize.ShloMosaic.Lib.Pointwise
public import Idealize.ShloMosaic.Lib.DynamicIndex

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Cert.Proof.Boxes Cert.Proof.Picks

variable (V : Valuation τ sig (Elt Ideal))

open scoped Classical

/-- The carried buffers after `k` trips, of overlaps `O`. -/
structure Loop (O : ℕ → ℕ → EReal) (k : ℕ) : Prop where
  ov : ∀ i j : Fin 1000, ((V (Proc.devRef .tc main_v143_0) : S1000x1000.Idx → EReal) (ix2 i j) : EReal) = O i.val j.val
  num : ∀ j : Fin 1000, ((V (Proc.devRef .tc main_v143_1) : S1000.Idx → BitVec 32) (ix1 j) : BitVec 32) = BitVec.ofNat 32 j.val
  ctr : ((V (Proc.devRef .tc main_v143_3) : S_.Idx → BitVec 32) ix0 : BitVec 32) = BitVec.ofNat 32 k
  keep : ∀ j : Fin 1000, ((V (Proc.devRef .tc main_v143_4) : S1000.Idx → BitVec 1) (ix1 j) : BitVec 1) = if kept O k j.val then 1#1 else 0#1

theorem row_slice (A : S1000x1000.Idx → EReal) (st : Fin 2 → Int) (h : S1000x1000.Slices (fun _ => 0) S1x1000) (k : Fin 1000)
    (h0 : st 0 = (k.val : Int)) (h1 : st 1 = 0) (j : Fin 1000) : Host.dynamicSlice S1x1000 A st h (ix2 0 j) = A (ix2 k j) := by
  have hoff : S1000x1000.Slices ![k.val, 0] S1x1000 := ⟨rfl, fun a => by
    fin_cases a
    · show k.val + 1 ≤ 1000; omega
    · show 0 + 1000 ≤ 1000; omega⟩
  have e := Host.dynamicSlice_eq_extractStridedSlice S1x1000 A st ![k.val, 0] h hoff fun a => by
    fin_cases a
    · exact h0
    · exact h1
  rw [e]
  refine congrArg A (funext fun a => Fin.ext ?_)
  fin_cases a
  · rfl
  · exact Nat.zero_add _

theorem bit_slice (A : S1000.Idx → BitVec 1) (st : Fin 1 → Int) (h : S1000.Slices (fun _ => 0) S1) (k : Fin 1000)
    (h0 : st 0 = (k.val : Int)) : Host.dynamicSlice S1 A st h (ix1 0) = A (ix1 k) := by
  have hoff : S1000.Slices ![k.val] S1 := ⟨rfl, fun a => by
    fin_cases a
    show k.val + 1 ≤ 1000; omega⟩
  have e := Host.dynamicSlice_eq_extractStridedSlice S1 A st ![k.val] h hoff fun a => by
    fin_cases a
    exact h0
  rw [e]
  refine congrArg A (funext fun a => Fin.ext ?_)
  fin_cases a
  rfl

theorem ofBool_iff (p : Prop) [Decidable p] : BitVec.ofBool (decide p) = 1#1 ↔ p := by
  by_cases h : p <;> simp [h]

theorem keep_bits (O : ℕ → ℕ → EReal) (k j : ℕ) (a r c b : BitVec 1) (ha : a = if kept O k j then 1#1 else 0#1)
    (hr : r = 1#1 ↔ Ideal.ofBits .f32 0x3F19999A#32 < O k j) (hc : c = 1#1 ↔ k < j) (hb : b = if kept O k k then 1#1 else 0#1) :
    IntOp.andi a (~~~ IntOp.andi (IntOp.andi r c) b) = if kept O (k + 1) j then 1#1 else 0#1 := by
  have hbits : ∀ a r c b : BitVec 1, IntOp.andi a (~~~ IntOp.andi (IntOp.andi r c) b) = if a = 1#1 ∧ ¬ (r = 1#1 ∧ c = 1#1 ∧ b = 1#1) then 1#1 else 0#1 := by
    decide
  rw [hbits]
  refine if_congr ?_ rfl rfl
  have e1 : ∀ q : Prop, (if q then 1#1 else 0#1 : BitVec 1) = 1#1 ↔ q := fun q => by by_cases h : q <;> simp [h]
  rw [ha, hb, hr, hc, e1, e1]
  rfl

theorem keep_step (O : ℕ → ℕ → EReal) (k : ℕ) (hk : k < 1000) (h : Loop V O k) (j : Fin 1000) :
    ((step_main_v143_4 V : S1000.Idx → BitVec 1) (ix1 j) : BitVec 1) = if kept O (k + 1) j.val then 1#1 else 0#1 := by
  obtain ⟨h0, h1, h2, h3⟩ := h
  unfold step_main_v143_4
  generalize V (Proc.devRef .tc main_v143_0) = A0 at *
  generalize V (Proc.devRef .tc main_v143_1) = A1 at *
  generalize V (Proc.devRef .tc main_v143_3) = A3 at *
  generalize V (Proc.devRef .tc main_v143_4) = A4 at *
  have hst : (A3 (Shape.Idx.first h_S_) : BitVec 32).toInt = (k : Int) := by
    rw [show Shape.Idx.first h_S_ = ix0 from Subsingleton.elim _ _, h2]
    exact toInt_ofNat_of_lt (by omega)
  have hrow := row_slice A0 (fun k => BitVec.toInt ((![A3, constantI S_ 32 0#32] : Fin 2 → S_.Idx → BitVec 32) k (Shape.Idx.first h_S_)))
    sliceFits_S1000x1000_S1x1000 ⟨k, hk⟩ hst rfl j
  have hbit := bit_slice A4 (fun k => BitVec.toInt (A3 (Shape.Idx.first h_S_))) sliceFits_S1000_S1 ⟨k, hk⟩ hst
  rw [h0] at hrow
  rw [h3] at hbit
  revert hrow
  generalize Host.dynamicSlice S1x1000 A0 _ _ = R
  intro hrow
  revert hbit
  simp only [id_eq]
  pointwise
  intro hbit
  refine keep_bits O k j.val _ _ _ _ (h3 j) ?_ ?_ hbit
  · rw [ofBool_iff]
    exact iff_of_eq (congrArg _ hrow)
  · rw [h1, h2]
    unfold IntOp.cmpi
    simp only [BitVec.slt, toInt_ofNat_of_lt (show k < 2 ^ 31 by omega), toInt_ofNat_of_lt (show j.val < 2 ^ 31 by omega)]
    rw [ofBool_iff]
    exact Int.ofNat_lt

theorem loop_step (O : ℕ → ℕ → EReal) (k : ℕ) (hk : k < 1000) (h : Loop V O k) : Loop (STEP V) O (k + 1) where
  ov i j := by rw [STEP_main_v143_0]; exact h.ov i j
  num j := by rw [STEP_main_v143_1]; exact h.num j
  ctr := by
    rw [STEP_main_v143_3]
    exact (congrArg (fun w : BitVec 32 => w + 1#32) h.ctr).trans (BitVec.ofNat_add k 1).symm
  keep j := by rw [STEP_main_v143_4]; exact keep_step V O k hk h j

theorem loop_run (O : ℕ → ℕ → EReal) (h : Loop V O 0) : ∀ k ≤ 1000, Loop (STEP^[k] V) O k
  | 0, _ => h
  | k + 1, hk => by
    rw [Function.iterate_succ_apply']
    exact loop_step _ O k (by omega) (loop_run O h k (by omega))

theorem entry_ov (X : S1000x1000.Idx → EReal) : after hostOps0_2 V (Proc.devRef .tc main_v140) = X → ∀ i j : Fin 1000,
    ((after hostOps0_2 V (Proc.devRef .tc main_v143_0) : S1000x1000.Idx → EReal) (ix2 i j) : EReal) = X (ix2 i j) := by
  after_reads_simp
  intro h i j
  exact congrFun h _

theorem entry_num (j : Fin 1000) :
    ((after hostOps0_2 V (Proc.devRef .tc main_v143_1) : S1000.Idx → BitVec 32) (ix1 j) : BitVec 32) = BitVec.ofNat 32 j.val := by
  after_reads_at
  rfl

theorem entry_ctr :
    ((after hostOps0_2 V (Proc.devRef .tc main_v143_3) : S_.Idx → BitVec 32) ix0 : BitVec 32) = BitVec.ofNat 32 0 := by
  after_reads_at
  rfl

theorem entry_keep4 (j : Fin 1000) :
    ((after hostOps0_2 V (Proc.devRef .tc main_v143_4) : S1000.Idx → BitVec 1) (ix1 j) : BitVec 1) = 1#1 := by
  after_reads_at
  rw [id_eq]
  pointwise

theorem loop_entry (O : ℕ → ℕ → EReal) (hO : ∀ i j : Fin 1000, ((after hostOps0_2 V (Proc.devRef .tc main_v140) : S1000x1000.Idx → EReal) (ix2 i j) : EReal) = O i.val j.val) :
    Loop (after hostOps0_2 V) O 0 where
  ov i j := (entry_ov V _ rfl i j).trans (hO i j)
  num := entry_num V
  ctr := entry_ctr V
  keep j := (entry_keep4 V j).trans (if_pos trivial).symm

/-! ### After the loop -/

section After

variable (s : ℕ → EReal) (q : ℕ → ℕ) (B : ℕ → Fin 4 → EReal)

theorem final_at (k : ℕ → Prop) (hv : ∀ j : Fin 1000, ((V (Proc.devRef .tc main_values) : S1000.Idx → EReal) (ix1 j) : EReal) = s j.val)
    (hk : ∀ j : Fin 1000, ((V (Proc.devRef .tc main_v143_4) : S1000.Idx → BitVec 1) (ix1 j) : BitVec 1) = if k j.val then 1#1 else 0#1) (j : Fin 1000) :
    ((after hostOps0_4 (after hostOps0_3 V) (Proc.devRef .tc main_v144) : S1000.Idx → EReal) (ix1 j) : EReal) = if k j.val then s j.val else 0 := by
  after_reads_at
  rw [hv, hk]
  by_cases h : k j.val
  · rw [if_pos h, if_pos h]
    rfl
  · rw [if_neg h, if_neg h]
    show Ideal.ofBits .f32 0#32 = 0
    simp [Ideal.ofBits, Ideal.ieee]

theorem cat2_at (a : S100x4.Idx → EReal) (b : S100x1.Idx → EReal) (h : Shape.Concatenates [S100x4, S100x1] S100x5 1) (k : Fin 100) (d : Fin 5) :
    (concatenate S100x5 1 [⟨S100x4, a⟩, ⟨S100x1, b⟩] h : S100x5.Idx → EReal) (ix2 k d)
      = if h : d.val < 4 then a (ix2 k ⟨d.val, h⟩) else b (ix2 k 0) := by
  fin_cases d <;> pointwise

theorem out_at (U : Valuation τ sig (Elt Ideal)) (hu : ∀ j : Fin 1000, ((U (Proc.devRef .tc main_v144) : S1000.Idx → EReal) (ix1 j) : EReal) = s j.val)
    (hb : ∀ (j : Fin 1000) (d : Fin 4), ((U (Proc.devRef .tc main_v92) : S1000x4.Idx → EReal) (ix2 j d) : EReal) = B j.val d)
    (hq : IsPicks 1000 s 100 q) (k : Fin 100) (d : Fin 5) :
    ((after hostOps0_5 U (Proc.devRef .tc main_v148) : S100x5.Idx → EReal) (ix2 k d) : EReal)
      = if h : d.val < 4 then B (q k.val) ⟨d.val, h⟩ else s (q k.val) := by
  after_reads_simp
  have hi := topK_snd_picks 100 (by norm_num) (U (Proc.devRef .tc main_v144)) s (fun i => (hu i).symm) sliceFits_S1000_S100 q hq k
  have hv := topK_fst_picks 100 (by norm_num) (U (Proc.devRef .tc main_v144)) s (fun i => (hu i).symm) sliceFits_S1000_S100 q hq k
  refine (cat2_at _ _ _ k d).trans ?_
  by_cases h : d.val < 4
  · rw [dif_pos h, dif_pos h]
    refine (Routing.gather_row gather_S1000x4_S100x1_S100x4_1_0_n_n_0_1_14 rfl rfl rfl rfl rfl _ _ k ⟨d.val, h⟩
      ⟨q k.val, (hq k.val k.isLt).1⟩ ?_ (by norm_num)).trans (hb _ _)
    pointwise
    exact hi
  · rw [dif_neg h, dif_neg h]
    pointwise
    exact hv

end After

end Cert.Proof.ReferenceIdeal

end
-- ==== Proof.RFinal.lean ====
module

public import proofs.«01_k».proof.Proof.RLoop
public import proofs.«01_k».proof.Proof.Picks
public import proofs.«01_k».proof.Proof.BoxFns

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Cert.Proof.Boxes Cert.Proof.Picks

open scoped Classical

variable (m : (ℓ : Loc nD τ sig) → Buf (Elt Ideal) ℓ) (c : Dev nD)

/-! ### The reference's result, entry by entry -/

/-- The reference's result: with `s` the flat scores, `D` and `A` the deltas and anchors by row, `p` the thousand best scores
    and `q` the hundred best after suppression, row `k` is the `q k`-th candidate's box and final score. -/
theorem ref_value (s : ℕ → EReal) (D A : ℕ → Fin 4 → EReal) (p q : ℕ → ℕ)
    (hs : ∀ (r : Fin 20000) (k : Fin 80), s (r.val * 80 + k.val)
      = scoreV ((m ((c.tc : Thread nD τ).loc main_arg0) : S20000x80.Idx → EReal) (ix2 r k)) ((m ((c.tc : Thread nD τ).loc main_arg2) : S20000.Idx → EReal) (ix1 r)))
    (hD : ∀ (r : Fin 20000) (k : Fin 4), D r.val k = (m ((c.tc : Thread nD τ).loc main_arg1) : S20000x4.Idx → EReal) (ix2 r k))
    (hA : ∀ (r : Fin 20000) (k : Fin 4), A r.val k = (m ((c.tc : Thread nD τ).loc main_arg3) : S20000x4.Idx → EReal) (ix2 r k))
    (hp : IsPicks 1600000 s 1000 p) (hq : IsPicks 1000 (final s D A p) 100 q) (k : Fin 100) (d : Fin 5) :
    ((finalContents condOps preI bodyI postI 1000 m c (Proc.devRef .tc main_v148) : S100x5.Idx → EReal) (ix2 k d) : EReal)
      = if h : d.val < 4 then box (D (p (q k.val) / 80)) (A (p (q k.val) / 80)) ⟨d.val, h⟩ else final s D A p (q k.val) := by
  let V : Valuation τ sig (Elt Ideal) := after hostOps0_1 (after hostOps0 fun b => m (c, b))
  have hE : entryContents preI m c = after hostOps0_2 V := rfl
  have hkeep : ∀ b : Ref sig .tc, b ∉ hostOps0_W ++ hostOps0_1_W → V (Proc.devRef .tc b) = m ((c.tc : Thread nD τ).loc b) := fun b hb => by
    simp only [List.mem_append, not_or] at hb
    show after hostOps0_1 (after hostOps0 fun b => m (c, b)) _ = _
    rw [after_of_writes_sub _ _ hostOps0_1_writes hb.2, after_of_writes_sub _ _ hostOps0_writes hb.1]
  have hsV : ∀ (r : Fin 20000) (k : Fin 80), s (r.val * 80 + k.val) = (V (Proc.devRef .tc main_v18) : S20000x80.Idx → EReal) (ix2 r k) :=
    fun r k => (hs r k).trans (score_at (fun b => m (c, b)) r k).symm
  have hdel : ∀ (j : Fin 1000) (k : Fin 4), ((after hostOps0_2 V (Proc.devRef .tc main_v25) : S1000x4.Idx → EReal) (ix2 j k) : EReal) = D (p j.val / 80) k :=
    fun j k => by rw [delta_at V s p hsV hp j k, hkeep main_arg1 (by decide), ← hD]; rfl
  have hanc : ∀ (j : Fin 1000) (k : Fin 4), ((after hostOps0_2 V (Proc.devRef .tc main_v27) : S1000x4.Idx → EReal) (ix2 j k) : EReal) = A (p j.val / 80) k :=
    fun j k => by rw [anchor_at V s p hsV hp j k, hkeep main_arg3 (by decide), ← hA]; rfl
  have hbox : ∀ (j : Fin 1000) (k : Fin 4), ((after hostOps0_2 V (Proc.devRef .tc main_v92) : S1000x4.Idx → EReal) (ix2 j k) : EReal)
      = box (D (p j.val / 80)) (A (p j.val / 80)) k := fun j k => by
    rw [boxes_at V j _ _ k rfl rfl]
    exact congrArg₂ (fun x y => box x y k) (funext fun k => hdel j k) (funext fun k => hanc j k)
  have hmov : ∀ (j : Fin 1000) (k : Fin 4), ((after hostOps0_2 V (Proc.devRef .tc main_v98) : S1000x4.Idx → EReal) (ix2 j k) : EReal) = cand D A p j.val k :=
    fun j k => by
    rw [moved_at V j _ k (p j.val % 80) (cls_at V s p hsV hp j) rfl]
    unfold cand moved
    exact congrArg (· + _) (hbox j k)
  have hov : ∀ i j : Fin 1000, ((after hostOps0_2 V (Proc.devRef .tc main_v140) : S1000x1000.Idx → EReal) (ix2 i j) : EReal)
      = iou (cand D A p i.val) (cand D A p j.val) := fun i j => by
    rw [pair_at V _ i j rfl]
    exact congrArg₂ iou (funext fun k => hmov i k) (funext fun k => hmov j k)
  have hloop := loop_run _ _ (loop_entry V (fun i j => iou (cand D A p i) (cand D A p j)) hov) 1000 le_rfl
  have hk : ∀ j : Fin 1000, ((V2 m c (Proc.devRef .tc main_v143_4) : S1000.Idx → BitVec 1) (ix1 j) : BitVec 1)
      = if kept (fun i j => iou (cand D A p i) (cand D A p j)) 1000 j.val then 1#1 else 0#1 := fun j => by
    rw [← hloop.keep j, ← hE]
    exact congrFun ((cond_keeps (atK m 1000 c) main_v143_4 (by decide)).trans (atK_agree m c 1000 main_v143_4 (by decide))) (ix1 j)
  have hv : ∀ j : Fin 1000, ((V2 m c (Proc.devRef .tc main_values) : S1000.Idx → EReal) (ix1 j) : EReal) = s (p j.val) := fun j => by
    rw [V2_keep m c main_values (by decide), hE]
    exact val_at V s p hsV hp j
  show ((after hostOps0_5 (after hostOps0_4 (after hostOps0_3 (V2 m c))) (Proc.devRef .tc main_v148) : S100x5.Idx → EReal) (ix2 k d) : EReal) = _
  refine out_at (final s D A p) q (fun j => box (D (p j / 80)) (A (p j / 80))) _ (fun j => ?_) (fun j k => ?_) hq k d
  · exact final_at (V2 m c) (fun j => s (p j)) _ hv hk j
  · rw [after_unwritten hostOps0_4_W rfl (by decide), after_unwritten hostOps0_3_W rfl (by decide), V2_keep m c main_v92 (by decide), hE]
    exact hbox j k

end Cert.Proof.ReferenceIdeal

end
-- ==== Proof.Algebraic.lean ====
/-
  The kernel and the reference compute the same result.
-/
module

public import proofs.«01_k».proof.Defs
public import proofs.«01_k».proof.Proof.KOut
public import proofs.«01_k».proof.Proof.Enough
public import proofs.«01_k».proof.Proof.RFinal

@[expose] public section

noncomputable section

namespace Cert.Proof

open Idealize.ShloMosaic Idealize.SL.Sem
open Cert.Proof.Boxes Cert.Proof.Picks

attribute [local instance] Cert.Pre_enough_candidates.Gen.facts

theorem ref_eq_kernel (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_enough_candidates m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    StableHlo.finalContents Cert.ReferenceIdeal.Value.condOps Cert.ReferenceIdeal.Value.preI Cert.ReferenceIdeal.Value.bodyI Cert.ReferenceIdeal.Value.postI 1000 m' c
        (Proc.devRef .tc Cert.ReferenceIdeal.main_v148)
      = Cert.Proof.KernelIdeal.VE m Cert.Proof.KernelIdeal.rowsOk Cert.Proof.KernelIdeal.laneOk c Cert.KernelIdeal.main_v3 := by
  obtain ⟨p, q, hp, hq, hk⟩ := Cert.Proof.KernelIdeal.kernel_out m Cert.Proof.KernelIdeal.rowsOk Cert.Proof.KernelIdeal.laneOk c fun n hn p =>
    Enough.exists_left _ _ _ _ _ (Cert.Proof.KernelIdeal.flat_kS m c) (fun j => congrFun (hpre c) (ix1 j)) n hn p
  have hr := Cert.Proof.ReferenceIdeal.ref_value m' c _ _ _ p q
    (fun r k => by rw [h0, h2]; exact Cert.Proof.KernelIdeal.flat_kS m c r k)
    (fun r k => by rw [h1]; exact Cert.Proof.KernelIdeal.dF_at m c r k)
    (fun r k => by rw [h3]; exact Cert.Proof.KernelIdeal.aF_at m c r k) hp hq
  refine funext fun y => ?_
  rw [eq_ix2 y]
  exact (hr (y 0) (y 1)).trans (hk (y 0) (y 1)).symm

set_option maxHeartbeats 2000000 in
/-- From memories with equal arguments and enough candidates, both run and end with equal results. -/
theorem algebraic : Cert.algebraic_KernelIdeal_ReferenceIdeal_pre_enough_candidates (hPre_enough_candidates := Cert.Pre_enough_candidates.Gen.facts) :=
  fun m g m' g' hpre heq =>
    ⟨fun c => Cert.Proof.KernelIdeal.VE m Cert.Proof.KernelIdeal.rowsOk Cert.Proof.KernelIdeal.laneOk c Cert.KernelIdeal.main_v3,
      (θ_run _ _ _).mono (fun r h c => ⟨(h.1 c).2 Cert.KernelIdeal.main_v3
          (show Cert.KernelIdeal.main_v3 ∈ Pipeline.restRefs Cert.KernelIdeal.sig Cert.KernelIdeal.spec0 by decide),
        Cert.Proof.KernelIdeal.args_kept m _ _ r c (h.1 c)⟩)
        (Cert.Proof.KernelIdeal.run_main m Cert.Proof.KernelIdeal.rowsOk Cert.Proof.KernelIdeal.laneOk g),
      (θ_run _ _ _).mono (fun r h c => ⟨(h c).1.trans (ref_eq_kernel m m' hpre c (heq c).1 (heq c).2.1 (heq c).2.2.1 (heq c).2.2.2), (h c).2⟩)
        (Cert.Proof.ReferenceIdeal.run_ref m' g')⟩

end Cert.Proof

end
-- ==== Proof.lean ====
module

public import proofs.«01_k».proof.Defs
public import proofs.«01_k».proof.Proof.Algebraic
public import proofs.«01_k».proof.Proof.Gen.KernelIdeal
public import proofs.«01_k».proof.Proof.Gen.ReferenceIdeal
public import proofs.«01_k».proof.Proof.Gen.Pre_enough_candidates

@[expose] public section

noncomputable section

namespace Cert.Proof

open Idealize.ShloMosaic Idealize.SL.Sem

theorem claim : Cert.Claim :=
  ⟨Cert.KernelIdeal.Gen.facts, Cert.ReferenceIdeal.Gen.facts, Cert.Pre_enough_candidates.Gen.facts,
    fun m g _ => Cert.Proof.KernelIdeal.quiescent m g, fun m g _ => Cert.Proof.KernelIdeal.quiescent m g,
    fun m g _ => Cert.Proof.ReferenceIdeal.quiescent m g, fun m g _ => Cert.Proof.ReferenceIdeal.quiescent m g,
    algebraic⟩

end Cert.Proof

end
